-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v854) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x8x512x1 : Shape := ⟨4, ![6, 8, 512, 1]⟩
abbrev S2x8x32768 : Shape := ⟨3, ![2, 8, 32768]⟩
abbrev S1x512x512 : Shape := ⟨3, ![1, 512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S512x512 : Shape := ⟨2, ![512, 512]⟩
abbrev S2x8x512x64 : Shape := ⟨4, ![2, 8, 512, 64]⟩
abbrev S2x64x8x512 : Shape := ⟨4, ![2, 64, 8, 512]⟩
abbrev S2x64x4096 : Shape := ⟨3, ![2, 64, 4096]⟩
abbrev S65x3x128 : Shape := ⟨3, ![65, 3, 128]⟩
abbrev S64x3x128 : Shape := ⟨3, ![64, 3, 128]⟩
abbrev S1x3x128 : Shape := ⟨3, ![1, 3, 128]⟩
abbrev S0x3x128 : Shape := ⟨3, ![0, 3, 128]⟩
abbrev S_ : Shape := ⟨0, ![]⟩
abbrev S7x3x128 : Shape := ⟨3, ![7, 3, 128]⟩
abbrev S8x3x128 : Shape := ⟨3, ![8, 3, 128]⟩
abbrev S72x3x128 : Shape := ⟨3, ![72, 3, 128]⟩
abbrev S3x72x128 : Shape := ⟨3, ![3, 72, 128]⟩
abbrev S216x128 : Shape := ⟨2, ![216, 128]⟩
abbrev S128x216 : Shape := ⟨2, ![128, 216]⟩
abbrev S65x3x64 : Shape := ⟨3, ![65, 3, 64]⟩
abbrev S64x3x64 : Shape := ⟨3, ![64, 3, 64]⟩
abbrev S1x3x64 : Shape := ⟨3, ![1, 3, 64]⟩
abbrev S0x3x64 : Shape := ⟨3, ![0, 3, 64]⟩
abbrev S7x3x64 : Shape := ⟨3, ![7, 3, 64]⟩
abbrev S8x3x64 : Shape := ⟨3, ![8, 3, 64]⟩
abbrev S72x3x64 : Shape := ⟨3, ![72, 3, 64]⟩
abbrev S3x72x64 : Shape := ⟨3, ![3, 72, 64]⟩
abbrev S216x64 : Shape := ⟨2, ![216, 64]⟩
abbrev S64x216 : Shape := ⟨2, ![64, 216]⟩
abbrev S128x3x128 : Shape := ⟨3, ![128, 3, 128]⟩
abbrev S3x128x128 : Shape := ⟨3, ![3, 128, 128]⟩
abbrev S128x384 : Shape := ⟨2, ![128, 384]⟩
abbrev S128x3x64 : Shape := ⟨3, ![128, 3, 64]⟩
abbrev S3x128x64 : Shape := ⟨3, ![3, 128, 64]⟩
abbrev S64x384 : Shape := ⟨2, ![64, 384]⟩
abbrev S128x1 : Shape := ⟨2, ![128, 1]⟩
abbrev S1x64 : Shape := ⟨2, ![1, 64]⟩
abbrev S1x1 : Shape := ⟨2, ![1, 1]⟩
abbrev S6x1x4096 : Shape := ⟨3, ![6, 1, 4096]⟩
abbrev S2x1x4096 : Shape := ⟨3, ![2, 1, 4096]⟩
abbrev S64x4096 : Shape := ⟨2, ![64, 4096]⟩
abbrev S8x4096 : Shape := ⟨2, ![8, 4096]⟩
abbrev S384x4096 : Shape := ⟨2, ![384, 4096]⟩
abbrev S1x64x4096 : Shape := ⟨3, ![1, 64, 4096]⟩
abbrev S72x4096 : Shape := ⟨2, ![72, 4096]⟩
abbrev S72x512 : Shape := ⟨2, ![72, 512]⟩
abbrev S216x4096 : Shape := ⟨2, ![216, 4096]⟩
abbrev S128x4096 : Shape := ⟨2, ![128, 4096]⟩
abbrev S128x512 : Shape := ⟨2, ![128, 512]⟩
abbrev S1x4096 : Shape := ⟨2, ![1, 4096]⟩
abbrev S1x1x4096 : Shape := ⟨3, ![1, 1, 4096]⟩

abbrev nBuf : Space → Nat
  | .hbm => 74
  | .vmem => 19
  | .smem => 0
  | _ => 0

abbrev bufTy : (tb : Table) → Fin (tcTables nBuf tb) → BufTy
  | .hbm, ⟨0, _⟩ => ⟨S6x8x512x1, .f32⟩
  | .hbm, ⟨1, _⟩ => ⟨S2x8x32768, .f32⟩
  | .hbm, ⟨2, _⟩ => ⟨S1x512x512, .f32⟩
  | .hbm, ⟨3, _⟩ => ⟨S195x128, .f32⟩
  | .hbm, ⟨4, _⟩ => ⟨S128, .f32⟩
  | .hbm, ⟨5, _⟩ => ⟨S195x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S512x512, .f32⟩
  | .hbm, ⟨14, _⟩ => ⟨S512x512, .f32⟩
  | .hbm, ⟨15, _⟩ => ⟨S512x512, .bf16⟩
  | .hbm, ⟨16, _⟩ => ⟨S2x8x512x64, .f32⟩
  | .hbm, ⟨17, _⟩ => ⟨S2x64x8x512, .f32⟩
  | .hbm, ⟨18, _⟩ => ⟨S2x64x4096, .f32⟩
  | .hbm, ⟨19, _⟩ => ⟨S65x3x128, .f32⟩
  | .hbm, ⟨20, _⟩ => ⟨S64x3x128, .f32⟩
  | .hbm, ⟨21, _⟩ => ⟨S1x3x128, .f32⟩
  | .hbm, ⟨22, _⟩ => ⟨S0x3x128, .f32⟩
  | .hbm, ⟨23, _⟩ => ⟨S_, .f32⟩
  | .hbm, ⟨24, _⟩ => ⟨S7x3x128, .f32⟩
  | .hbm, ⟨25, _⟩ => ⟨S8x3x128, .f32⟩
  | .hbm, ⟨26, _⟩ => ⟨S72x3x128, .f32⟩
  | .hbm, ⟨27, _⟩ => ⟨S3x72x128, .f32⟩
  | .hbm, ⟨28, _⟩ => ⟨S216x128, .f32⟩
  | .hbm, ⟨29, _⟩ => ⟨S128x216, .f32⟩
  | .hbm, ⟨30, _⟩ => ⟨S128x216, .bf16⟩
  | .hbm, ⟨31, _⟩ => ⟨S65x3x64, .f32⟩
  | .hbm, ⟨32, _⟩ => ⟨S64x3x64, .f32⟩
  | .hbm, ⟨33, _⟩ => ⟨S1x3x64, .f32⟩
  | .hbm, ⟨34, _⟩ => ⟨S0x3x64, .f32⟩
  | .hbm, ⟨35, _⟩ => ⟨S_, .f32⟩
  | .hbm, ⟨36, _⟩ => ⟨S7x3x64, .f32⟩
  | .hbm, ⟨37, _⟩ => ⟨S8x3x64, .f32⟩
  | .hbm, ⟨38, _⟩ => ⟨S72x3x64, .f32⟩
  | .hbm, ⟨39, _⟩ => ⟨S3x72x64, .f32⟩
  | .hbm, ⟨40, _⟩ => ⟨S216x64, .f32⟩
  | .hbm, ⟨41, _⟩ => ⟨S64x216, .f32⟩
  | .hbm, ⟨42, _⟩ => ⟨S64x216, .bf16⟩
  | .hbm, ⟨43, _⟩ => ⟨S128x3x128, .f32⟩
  | .hbm, ⟨44, _⟩ => ⟨S64x3x128, .f32⟩
  | .hbm, ⟨45, _⟩ => ⟨S64x3x128, .f32⟩
  | .hbm, ⟨46, _⟩ => ⟨S0x3x128, .f32⟩
  | .hbm, ⟨47, _⟩ => ⟨S_, .f32⟩
  | .hbm, ⟨48, _⟩ => ⟨S0x3x128, .f32⟩
  | .hbm, ⟨49, _⟩ => ⟨S64x3x128, .f32⟩
  | .hbm, ⟨50, _⟩ => ⟨S128x3x128, .f32⟩
  | .hbm, ⟨51, _⟩ => ⟨S3x128x128, .f32⟩
  | .hbm, ⟨52, _⟩ => ⟨S384x128, .f32⟩
  | .hbm, ⟨53, _⟩ => ⟨S128x384, .f32⟩
  | .hbm, ⟨54, _⟩ => ⟨S128x384, .bf16⟩
  | .hbm, ⟨55, _⟩ => ⟨S128x3x64, .f32⟩
  | .hbm, ⟨56, _⟩ => ⟨S64x3x64, .f32⟩
  | .hbm, ⟨57, _⟩ => ⟨S64x3x64, .f32⟩
  | .hbm, ⟨58, _⟩ => ⟨S0x3x64, .f32⟩
  | .hbm, ⟨59, _⟩ => ⟨S_, .f32⟩
  | .hbm, ⟨60, _⟩ => ⟨S0x3x64, .f32⟩
  | .hbm, ⟨61, _⟩ => ⟨S64x3x64, .f32⟩
  | .hbm, ⟨62, _⟩ => ⟨S128x3x64, .f32⟩
  | .hbm, ⟨63, _⟩ => ⟨S3x128x64, .f32⟩
  | .hbm, ⟨64, _⟩ => ⟨S384x64, .f32⟩
  | .hbm, ⟨65, _⟩ => ⟨S64x384, .f32⟩
  | .hbm, ⟨66, _⟩ => ⟨S64x384, .bf16⟩
  | .hbm, ⟨67, _⟩ => ⟨S128x1, .f32⟩
  | .hbm, ⟨68, _⟩ => ⟨S64x1, .f32⟩
  | .hbm, ⟨69, _⟩ => ⟨S128x1, .f32⟩
  | .hbm, ⟨70, _⟩ => ⟨S64x1, .f32⟩
  | .hbm, ⟨71, _⟩ => ⟨S1x64, .f32⟩
  | .hbm, ⟨72, _⟩ => ⟨S1x1, .f32⟩
  | .hbm, ⟨73, _⟩ => ⟨S6x1x4096, .f32⟩
  | .local _ .vmem, ⟨0, _⟩ => ⟨S512x512, .bf16⟩
  | .local _ .vmem, ⟨1, _⟩ => ⟨S2x64x4096, .f32⟩
  | .local _ .vmem, ⟨2, _⟩ => ⟨S128x216, .bf16⟩
  | .local _ .vmem, ⟨3, _⟩ => ⟨S128x1, .f32⟩
  | .local _ .vmem, ⟨4, _⟩ => ⟨S64x216, .bf16⟩
  | .local _ .vmem, ⟨5, _⟩ => ⟨S64x1, .f32⟩
  | .local _ .vmem, ⟨6, _⟩ => ⟨S128x384, .bf16⟩
  | .local _ .vmem, ⟨7, _⟩ => ⟨S128x1, .f32⟩
  | .local _ .vmem, ⟨8, _⟩ => ⟨S64x384, .bf16⟩
  | .local _ .vmem, ⟨9, _⟩ => ⟨S64x1, .f32⟩
  | .local _ .vmem, ⟨10, _⟩ => ⟨S1x64, .f32⟩
  | .local _ .vmem, ⟨11, _⟩ => ⟨S1x1, .f32⟩
  | .local _ .vmem, ⟨12, _⟩ => ⟨S2x1x4096, .f32⟩
  | .local _ .vmem, ⟨13, _⟩ => ⟨S2x1x4096, .f32⟩
  | .local _ .vmem, ⟨14, _⟩ => ⟨S64x4096, .f32⟩
  | .local _ .vmem, ⟨15, _⟩ => ⟨S64x4096, .f32⟩
  | .local _ .vmem, ⟨16, _⟩ => ⟨S8x4096, .f32⟩
  | .local _ .vmem, ⟨17, _⟩ => ⟨S384x4096, .bf16⟩
  | .local _ .vmem, ⟨18, _⟩ => ⟨S384x4096, .bf16⟩
  | _, _ => ⟨S6x8x512x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_1 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg12_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem12_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x216 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x216 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x1x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S6x8x512x1 : Shape := ⟨4, ![6, 8, 512, 1]⟩
abbrev S2x8x32768 : Shape := ⟨3, ![2, 8, 32768]⟩
abbrev S1x512x512 : Shape := ⟨3, ![1, 512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩
abbrev S8x512 : Shape := ⟨2, ![8, 512]⟩
abbrev S1x8x32768 : Shape := ⟨3, ![1, 8, 32768]⟩
abbrev S8x32768 : Shape := ⟨2, ![8, 32768]⟩
abbrev S8x512x1 : Shape := ⟨3, ![8, 512, 1]⟩
abbrev S8x512x64 : Shape := ⟨3, ![8, 512, 64]⟩
abbrev S8x512x65 : Shape := ⟨3, ![8, 512, 65]⟩
abbrev S512x65x8 : Shape := ⟨3, ![512, 65, 8]⟩
abbrev S512x520 : Shape := ⟨2, ![512, 520]⟩
abbrev S512x512 : Shape := ⟨2, ![512, 512]⟩
abbrev S1x512x520 : Shape := ⟨3, ![1, 512, 520]⟩
abbrev S3x512x520 : Shape := ⟨3, ![3, 512, 520]⟩
abbrev S3x512x65x8 : Shape := ⟨4, ![3, 512, 65, 8]⟩
abbrev S8x512x65x3 : Shape := ⟨4, ![8, 512, 65, 3]⟩
abbrev S4096x195 : Shape := ⟨2, ![4096, 195]⟩
abbrev S4096x128 : Shape := ⟨2, ![4096, 128]⟩
abbrev S1x128 : Shape := ⟨2, ![1, 128]⟩
abbrev S8x65536 : Shape := ⟨2, ![8, 65536]⟩
abbrev S8x512x128 : Shape := ⟨3, ![8, 512, 128]⟩
abbrev S4096x64 : Shape := ⟨2, ![4096, 64]⟩
abbrev S1x64 : Shape := ⟨2, ![1, 64]⟩
abbrev S512x128x8 : Shape := ⟨3, ![512, 128, 8]⟩
abbrev S512x1024 : Shape := ⟨2, ![512, 1024]⟩
abbrev S1x512x1024 : Shape := ⟨3, ![1, 512, 1024]⟩
abbrev S3x512x1024 : Shape := ⟨3, ![3, 512, 1024]⟩
abbrev S3x512x128x8 : Shape := ⟨4, ![3, 512, 128, 8]⟩
abbrev S8x512x128x3 : Shape := ⟨4, ![8, 512, 128, 3]⟩
abbrev S4096x384 : Shape := ⟨2, ![4096, 384]⟩
abbrev S1x1x1 : Shape := ⟨3, ![1, 1, 1]⟩
abbrev S1x8x512 : Shape := ⟨3, ![1, 8, 512]⟩
abbrev S6x8x512 : Shape := ⟨3, ![6, 8, 512]⟩
abbrev S6x1x4096 : Shape := ⟨3, ![6, 1, 4096]⟩

abbrev nBuf : Space → Nat
  | .hbm => 929
  | .vmem => 0
  | .smem => 0
  | _ => 0

abbrev hbmTy0_0 (i : Nat) : BufTy := match i % 128 with
  | 0 => ⟨S6x8x512x1, .f32⟩
  | 1 => ⟨S2x8x32768, .f32⟩
  | 2 => ⟨S1x512x512, .f32⟩
  | 3 => ⟨S195x128, .f32⟩
  | 4 => ⟨S128, .f32⟩
  | 5 => ⟨S195x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x1, .f32⟩
  | 12 => ⟨S1, .f32⟩
  | 13 => ⟨S_, .f32⟩
  | 14 => ⟨S8x512, .f32⟩
  | 15 => ⟨S1x8x32768, .f32⟩
  | 16 => ⟨S8x32768, .f32⟩
  | 17 => ⟨S8x512x1, .f32⟩
  | 18 => ⟨S8x512x64, .f32⟩
  | 19 => ⟨S8x512x65, .f32⟩
  | 20 => ⟨S512x65x8, .f32⟩
  | 21 => ⟨S512x520, .f32⟩
  | 22 => ⟨S512x512, .f32⟩
  | 23 => ⟨S512x520, .f32⟩
  | 24 => ⟨S512x520, .f32⟩
  | 25 => ⟨S_, .f32⟩
  | 26 => ⟨S512x520, .f32⟩
  | 27 => ⟨S512x520, .f32⟩
  | 28 => ⟨S512x520, .f32⟩
  | 29 => ⟨S1x512x520, .f32⟩
  | 30 => ⟨S1x512x520, .f32⟩
  | 31 => ⟨S1x512x520, .f32⟩
  | 32 => ⟨S3x512x520, .f32⟩
  | 33 => ⟨S3x512x65x8, .f32⟩
  | 34 => ⟨S8x512x65x3, .f32⟩
  | 35 => ⟨S4096x195, .f32⟩
  | 36 => ⟨S4096x128, .f32⟩
  | 37 => ⟨S1x128, .f32⟩
  | 38 => ⟨S4096x128, .f32⟩
  | 39 => ⟨S4096x128, .f32⟩
  | 40 => ⟨S8x65536, .f32⟩
  | 41 => ⟨S8x65536, .f32⟩
  | 42 => ⟨S8x65536, .f32⟩
  | 43 => ⟨S_, .f32⟩
  | 44 => ⟨S8x65536, .f32⟩
  | 45 => ⟨S8x65536, .f32⟩
  | 46 => ⟨S_, .f32⟩
  | 47 => ⟨S8x65536, .f32⟩
  | 48 => ⟨S8x65536, .f32⟩
  | 49 => ⟨S8x512x128, .f32⟩
  | 50 => ⟨S8x512x64, .f32⟩
  | 51 => ⟨S8x32768, .f32⟩
  | 52 => ⟨S8x512x64, .f32⟩
  | 53 => ⟨S8x32768, .f32⟩
  | 54 => ⟨S8x32768, .f32⟩
  | 55 => ⟨S8x512x1, .f32⟩
  | 56 => ⟨S8x512x64, .f32⟩
  | 57 => ⟨S8x512x65, .f32⟩
  | 58 => ⟨S512x65x8, .f32⟩
  | 59 => ⟨S512x520, .f32⟩
  | 60 => ⟨S512x512, .f32⟩
  | 61 => ⟨S512x520, .f32⟩
  | 62 => ⟨S512x520, .f32⟩
  | 63 => ⟨S_, .f32⟩
  | 64 => ⟨S512x520, .f32⟩
  | 65 => ⟨S512x520, .f32⟩
  | 66 => ⟨S512x520, .f32⟩
  | 67 => ⟨S1x512x520, .f32⟩
  | 68 => ⟨S1x512x520, .f32⟩
  | 69 => ⟨S1x512x520, .f32⟩
  | 70 => ⟨S3x512x520, .f32⟩
  | 71 => ⟨S3x512x65x8, .f32⟩
  | 72 => ⟨S8x512x65x3, .f32⟩
  | 73 => ⟨S4096x195, .f32⟩
  | 74 => ⟨S4096x64, .f32⟩
  | 75 => ⟨S1x64, .f32⟩
  | 76 => ⟨S4096x64, .f32⟩
  | 77 => ⟨S4096x64, .f32⟩
  | 78 => ⟨S8x32768, .f32⟩
  | 79 => ⟨S8x32768, .f32⟩
  | 80 => ⟨S8x32768, .f32⟩
  | 81 => ⟨S_, .f32⟩
  | 82 => ⟨S8x32768, .f32⟩
  | 83 => ⟨S8x32768, .f32⟩
  | 84 => ⟨S8x32768, .f32⟩
  | 85 => ⟨S8x32768, .f32⟩
  | 86 => ⟨S1x8x32768, .f32⟩
  | 87 => ⟨S8x32768, .f32⟩
  | 88 => ⟨S8x512x64, .f32⟩
  | 89 => ⟨S8x512x64, .f32⟩
  | 90 => ⟨S8x512x128, .f32⟩
  | 91 => ⟨S512x128x8, .f32⟩
  | 92 => ⟨S512x1024, .f32⟩
  | 93 => ⟨S512x512, .f32⟩
  | 94 => ⟨S512x1024, .f32⟩
  | 95 => ⟨S512x1024, .f32⟩
  | 96 => ⟨S_, .f32⟩
  | 97 => ⟨S512x1024, .f32⟩
  | 98 => ⟨S512x1024, .f32⟩
  | 99 => ⟨S512x1024, .f32⟩
  | 100 => ⟨S1x512x1024, .f32⟩
  | 101 => ⟨S1x512x1024, .f32⟩
  | 102 => ⟨S1x512x1024, .f32⟩
  | 103 => ⟨S3x512x1024, .f32⟩
  | 104 => ⟨S3x512x128x8, .f32⟩
  | 105 => ⟨S8x512x128x3, .f32⟩
  | 106 => ⟨S4096x384, .f32⟩
  | 107 => ⟨S4096x128, .f32⟩
  | 108 => ⟨S1x128, .f32⟩
  | 109 => ⟨S4096x128, .f32⟩
  | 110 => ⟨S4096x128, .f32⟩
  | 111 => ⟨S8x65536, .f32⟩
  | 112 => ⟨S8x65536, .f32⟩
  | 113 => ⟨S8x65536, .f32⟩
  | 114 => ⟨S_, .f32⟩
  | 115 => ⟨S8x65536, .f32⟩
  | 116 => ⟨S8x65536, .f32⟩
  | 117 => ⟨S_, .f32⟩
  | 118 => ⟨S8x65536, .f32⟩
  | 119 => ⟨S8x65536, .f32⟩
  | 120 => ⟨S8x512x128, .f32⟩
  | 121 => ⟨S8x512x64, .f32⟩
  | 122 => ⟨S8x32768, .f32⟩
  | 123 => ⟨S8x512x64, .f32⟩
  | 124 => ⟨S8x32768, .f32⟩
  | 125 => ⟨S8x32768, .f32⟩
  | 126 => ⟨S8x512x64, .f32⟩
  | 127 => ⟨S8x512x64, .f32⟩
  | _ => ⟨S6x8x512x1, .f32⟩

abbrev hbmTy0_1 (i : Nat) : BufTy := match i % 128 with
  | 0 => ⟨S8x512x128, .f32⟩
  | 1 => ⟨S512x128x8, .f32⟩
  | 2 => ⟨S512x1024, .f32⟩
  | 3 => ⟨S512x512, .f32⟩
  | 4 => ⟨S512x1024, .f32⟩
  | 5 => ⟨S512x1024, .f32⟩
  | 6 => ⟨S_, .f32⟩
  | 7 => ⟨S512x1024, .f32⟩
  | 8 => ⟨S512x1024, .f32⟩
  | 9 => ⟨S512x1024, .f32⟩
  | 10 => ⟨S1x512x1024, .f32⟩
  | 11 => ⟨S1x512x1024, .f32⟩
  | 12 => ⟨S1x512x1024, .f32⟩
  | 13 => ⟨S3x512x1024, .f32⟩
  | 14 => ⟨S3x512x128x8, .f32⟩
  | 15 => ⟨S8x512x128x3, .f32⟩
  | 16 => ⟨S4096x384, .f32⟩
  | 17 => ⟨S4096x64, .f32⟩
  | 18 => ⟨S1x64, .f32⟩
  | 19 => ⟨S4096x64, .f32⟩
  | 20 => ⟨S4096x64, .f32⟩
  | 21 => ⟨S8x32768, .f32⟩
  | 22 => ⟨S8x32768, .f32⟩
  | 23 => ⟨S8x32768, .f32⟩
  | 24 => ⟨S_, .f32⟩
  | 25 => ⟨S8x32768, .f32⟩
  | 26 => ⟨S8x32768, .f32⟩
  | 27 => ⟨S8x32768, .f32⟩
  | 28 => ⟨S8x32768, .f32⟩
  | 29 => ⟨S1x8x32768, .f32⟩
  | 30 => ⟨S1x8x32768, .f32⟩
  | 31 => ⟨S2x8x32768, .f32⟩
  | 32 => ⟨S8x512x64, .f32⟩
  | 33 => ⟨S8x512x1, .f32⟩
  | 34 => ⟨S1x1x1, .f32⟩
  | 35 => ⟨S8x512x1, .f32⟩
  | 36 => ⟨S8x512x1, .f32⟩
  | 37 => ⟨S8x512, .f32⟩
  | 38 => ⟨S1x8x32768, .f32⟩
  | 39 => ⟨S8x32768, .f32⟩
  | 40 => ⟨S8x512x1, .f32⟩
  | 41 => ⟨S8x512x64, .f32⟩
  | 42 => ⟨S8x512x65, .f32⟩
  | 43 => ⟨S512x65x8, .f32⟩
  | 44 => ⟨S512x520, .f32⟩
  | 45 => ⟨S512x512, .f32⟩
  | 46 => ⟨S512x520, .f32⟩
  | 47 => ⟨S512x520, .f32⟩
  | 48 => ⟨S_, .f32⟩
  | 49 => ⟨S512x520, .f32⟩
  | 50 => ⟨S512x520, .f32⟩
  | 51 => ⟨S512x520, .f32⟩
  | 52 => ⟨S1x512x520, .f32⟩
  | 53 => ⟨S1x512x520, .f32⟩
  | 54 => ⟨S1x512x520, .f32⟩
  | 55 => ⟨S3x512x520, .f32⟩
  | 56 => ⟨S3x512x65x8, .f32⟩
  | 57 => ⟨S8x512x65x3, .f32⟩
  | 58 => ⟨S4096x195, .f32⟩
  | 59 => ⟨S4096x128, .f32⟩
  | 60 => ⟨S1x128, .f32⟩
  | 61 => ⟨S4096x128, .f32⟩
  | 62 => ⟨S4096x128, .f32⟩
  | 63 => ⟨S8x65536, .f32⟩
  | 64 => ⟨S8x65536, .f32⟩
  | 65 => ⟨S8x65536, .f32⟩
  | 66 => ⟨S_, .f32⟩
  | 67 => ⟨S8x65536, .f32⟩
  | 68 => ⟨S8x65536, .f32⟩
  | 69 => ⟨S_, .f32⟩
  | 70 => ⟨S8x65536, .f32⟩
  | 71 => ⟨S8x65536, .f32⟩
  | 72 => ⟨S8x512x128, .f32⟩
  | 73 => ⟨S8x512x64, .f32⟩
  | 74 => ⟨S8x32768, .f32⟩
  | 75 => ⟨S8x512x64, .f32⟩
  | 76 => ⟨S8x32768, .f32⟩
  | 77 => ⟨S8x32768, .f32⟩
  | 78 => ⟨S8x512x1, .f32⟩
  | 79 => ⟨S8x512x64, .f32⟩
  | 80 => ⟨S8x512x65, .f32⟩
  | 81 => ⟨S512x65x8, .f32⟩
  | 82 => ⟨S512x520, .f32⟩
  | 83 => ⟨S512x512, .f32⟩
  | 84 => ⟨S512x520, .f32⟩
  | 85 => ⟨S512x520, .f32⟩
  | 86 => ⟨S_, .f32⟩
  | 87 => ⟨S512x520, .f32⟩
  | 88 => ⟨S512x520, .f32⟩
  | 89 => ⟨S512x520, .f32⟩
  | 90 => ⟨S1x512x520, .f32⟩
  | 91 => ⟨S1x512x520, .f32⟩
  | 92 => ⟨S1x512x520, .f32⟩
  | 93 => ⟨S3x512x520, .f32⟩
  | 94 => ⟨S3x512x65x8, .f32⟩
  | 95 => ⟨S8x512x65x3, .f32⟩
  | 96 => ⟨S4096x195, .f32⟩
  | 97 => ⟨S4096x64, .f32⟩
  | 98 => ⟨S1x64, .f32⟩
  | 99 => ⟨S4096x64, .f32⟩
  | 100 => ⟨S4096x64, .f32⟩
  | 101 => ⟨S8x32768, .f32⟩
  | 102 => ⟨S8x32768, .f32⟩
  | 103 => ⟨S8x32768, .f32⟩
  | 104 => ⟨S_, .f32⟩
  | 105 => ⟨S8x32768, .f32⟩
  | 106 => ⟨S8x32768, .f32⟩
  | 107 => ⟨S8x32768, .f32⟩
  | 108 => ⟨S8x32768, .f32⟩
  | 109 => ⟨S1x8x32768, .f32⟩
  | 110 => ⟨S8x32768, .f32⟩
  | 111 => ⟨S8x512x64, .f32⟩
  | 112 => ⟨S8x512x64, .f32⟩
  | 113 => ⟨S8x512x128, .f32⟩
  | 114 => ⟨S512x128x8, .f32⟩
  | 115 => ⟨S512x1024, .f32⟩
  | 116 => ⟨S512x512, .f32⟩
  | 117 => ⟨S512x1024, .f32⟩
  | 118 => ⟨S512x1024, .f32⟩
  | 119 => ⟨S_, .f32⟩
  | 120 => ⟨S512x1024, .f32⟩
  | 121 => ⟨S512x1024, .f32⟩
  | 122 => ⟨S512x1024, .f32⟩
  | 123 => ⟨S1x512x1024, .f32⟩
  | 124 => ⟨S1x512x1024, .f32⟩
  | 125 => ⟨S1x512x1024, .f32⟩
  | 126 => ⟨S3x512x1024, .f32⟩
  | 127 => ⟨S3x512x128x8, .f32⟩
  | _ => ⟨S6x8x512x1, .f32⟩

abbrev hbmTy0_2 (i : Nat) : BufTy := match i % 128 with
  | 0 => ⟨S8x512x128x3, .f32⟩
  | 1 => ⟨S4096x384, .f32⟩
  | 2 => ⟨S4096x128, .f32⟩
  | 3 => ⟨S1x128, .f32⟩
  | 4 => ⟨S4096x128, .f32⟩
  | 5 => ⟨S4096x128, .f32⟩
  | 6 => ⟨S8x65536, .f32⟩
  | 7 => ⟨S8x65536, .f32⟩
  | 8 => ⟨S8x65536, .f32⟩
  | 9 => ⟨S_, .f32⟩
  | 10 => ⟨S8x65536, .f32⟩
  | 11 => ⟨S8x65536, .f32⟩
  | 12 => ⟨S_, .f32⟩
  | 13 => ⟨S8x65536, .f32⟩
  | 14 => ⟨S8x65536, .f32⟩
  | 15 => ⟨S8x512x128, .f32⟩
  | 16 => ⟨S8x512x64, .f32⟩
  | 17 => ⟨S8x32768, .f32⟩
  | 18 => ⟨S8x512x64, .f32⟩
  | 19 => ⟨S8x32768, .f32⟩
  | 20 => ⟨S8x32768, .f32⟩
  | 21 => ⟨S8x512x64, .f32⟩
  | 22 => ⟨S8x512x64, .f32⟩
  | 23 => ⟨S8x512x128, .f32⟩
  | 24 => ⟨S512x128x8, .f32⟩
  | 25 => ⟨S512x1024, .f32⟩
  | 26 => ⟨S512x512, .f32⟩
  | 27 => ⟨S512x1024, .f32⟩
  | 28 => ⟨S512x1024, .f32⟩
  | 29 => ⟨S_, .f32⟩
  | 30 => ⟨S512x1024, .f32⟩
  | 31 => ⟨S512x1024, .f32⟩
  | 32 => ⟨S512x1024, .f32⟩
  | 33 => ⟨S1x512x1024, .f32⟩
  | 34 => ⟨S1x512x1024, .f32⟩
  | 35 => ⟨S1x512x1024, .f32⟩
  | 36 => ⟨S3x512x1024, .f32⟩
  | 37 => ⟨S3x512x128x8, .f32⟩
  | 38 => ⟨S8x512x128x3, .f32⟩
  | 39 => ⟨S4096x384, .f32⟩
  | 40 => ⟨S4096x64, .f32⟩
  | 41 => ⟨S1x64, .f32⟩
  | 42 => ⟨S4096x64, .f32⟩
  | 43 => ⟨S4096x64, .f32⟩
  | 44 => ⟨S8x32768, .f32⟩
  | 45 => ⟨S8x32768, .f32⟩
  | 46 => ⟨S8x32768, .f32⟩
  | 47 => ⟨S_, .f32⟩
  | 48 => ⟨S8x32768, .f32⟩
  | 49 => ⟨S8x32768, .f32⟩
  | 50 => ⟨S8x32768, .f32⟩
  | 51 => ⟨S8x32768, .f32⟩
  | 52 => ⟨S1x8x32768, .f32⟩
  | 53 => ⟨S1x8x32768, .f32⟩
  | 54 => ⟨S2x8x32768, .f32⟩
  | 55 => ⟨S8x512x64, .f32⟩
  | 56 => ⟨S8x512x1, .f32⟩
  | 57 => ⟨S1x1x1, .f32⟩
  | 58 => ⟨S8x512x1, .f32⟩
  | 59 => ⟨S8x512x1, .f32⟩
  | 60 => ⟨S8x512, .f32⟩
  | 61 => ⟨S1x8x32768, .f32⟩
  | 62 => ⟨S8x32768, .f32⟩
  | 63 => ⟨S8x512x1, .f32⟩
  | 64 => ⟨S8x512x64, .f32⟩
  | 65 => ⟨S8x512x65, .f32⟩
  | 66 => ⟨S512x65x8, .f32⟩
  | 67 => ⟨S512x520, .f32⟩
  | 68 => ⟨S512x512, .f32⟩
  | 69 => ⟨S512x520, .f32⟩
  | 70 => ⟨S512x520, .f32⟩
  | 71 => ⟨S_, .f32⟩
  | 72 => ⟨S512x520, .f32⟩
  | 73 => ⟨S512x520, .f32⟩
  | 74 => ⟨S512x520, .f32⟩
  | 75 => ⟨S1x512x520, .f32⟩
  | 76 => ⟨S1x512x520, .f32⟩
  | 77 => ⟨S1x512x520, .f32⟩
  | 78 => ⟨S3x512x520, .f32⟩
  | 79 => ⟨S3x512x65x8, .f32⟩
  | 80 => ⟨S8x512x65x3, .f32⟩
  | 81 => ⟨S4096x195, .f32⟩
  | 82 => ⟨S4096x128, .f32⟩
  | 83 => ⟨S1x128, .f32⟩
  | 84 => ⟨S4096x128, .f32⟩
  | 85 => ⟨S4096x128, .f32⟩
  | 86 => ⟨S8x65536, .f32⟩
  | 87 => ⟨S8x65536, .f32⟩
  | 88 => ⟨S8x65536, .f32⟩
  | 89 => ⟨S_, .f32⟩
  | 90 => ⟨S8x65536, .f32⟩
  | 91 => ⟨S8x65536, .f32⟩
  | 92 => ⟨S_, .f32⟩
  | 93 => ⟨S8x65536, .f32⟩
  | 94 => ⟨S8x65536, .f32⟩
  | 95 => ⟨S8x512x128, .f32⟩
  | 96 => ⟨S8x512x64, .f32⟩
  | 97 => ⟨S8x32768, .f32⟩
  | 98 => ⟨S8x512x64, .f32⟩
  | 99 => ⟨S8x32768, .f32⟩
  | 100 => ⟨S8x32768, .f32⟩
  | 101 => ⟨S8x512x1, .f32⟩
  | 102 => ⟨S8x512x64, .f32⟩
  | 103 => ⟨S8x512x65, .f32⟩
  | 104 => ⟨S512x65x8, .f32⟩
  | 105 => ⟨S512x520, .f32⟩
  | 106 => ⟨S512x512, .f32⟩
  | 107 => ⟨S512x520, .f32⟩
  | 108 => ⟨S512x520, .f32⟩
  | 109 => ⟨S_, .f32⟩
  | 110 => ⟨S512x520, .f32⟩
  | 111 => ⟨S512x520, .f32⟩
  | 112 => ⟨S512x520, .f32⟩
  | 113 => ⟨S1x512x520, .f32⟩
  | 114 => ⟨S1x512x520, .f32⟩
  | 115 => ⟨S1x512x520, .f32⟩
  | 116 => ⟨S3x512x520, .f32⟩
  | 117 => ⟨S3x512x65x8, .f32⟩
  | 118 => ⟨S8x512x65x3, .f32⟩
  | 119 => ⟨S4096x195, .f32⟩
  | 120 => ⟨S4096x64, .f32⟩
  | 121 => ⟨S1x64, .f32⟩
  | 122 => ⟨S4096x64, .f32⟩
  | 123 => ⟨S4096x64, .f32⟩
  | 124 => ⟨S8x32768, .f32⟩
  | 125 => ⟨S8x32768, .f32⟩
  | 126 => ⟨S8x32768, .f32⟩
  | 127 => ⟨S_, .f32⟩
  | _ => ⟨S6x8x512x1, .f32⟩

abbrev hbmTy0_3 (i : Nat) : BufTy := match i % 128 with
  | 0 => ⟨S8x32768, .f32⟩
  | 1 => ⟨S8x32768, .f32⟩
  | 2 => ⟨S8x32768, .f32⟩
  | 3 => ⟨S8x32768, .f32⟩
  | 4 => ⟨S1x8x32768, .f32⟩
  | 5 => ⟨S8x32768, .f32⟩
  | 6 => ⟨S8x512x64, .f32⟩
  | 7 => ⟨S8x512x64, .f32⟩
  | 8 => ⟨S8x512x128, .f32⟩
  | 9 => ⟨S512x128x8, .f32⟩
  | 10 => ⟨S512x1024, .f32⟩
  | 11 => ⟨S512x512, .f32⟩
  | 12 => ⟨S512x1024, .f32⟩
  | 13 => ⟨S512x1024, .f32⟩
  | 14 => ⟨S_, .f32⟩
  | 15 => ⟨S512x1024, .f32⟩
  | 16 => ⟨S512x1024, .f32⟩
  | 17 => ⟨S512x1024, .f32⟩
  | 18 => ⟨S1x512x1024, .f32⟩
  | 19 => ⟨S1x512x1024, .f32⟩
  | 20 => ⟨S1x512x1024, .f32⟩
  | 21 => ⟨S3x512x1024, .f32⟩
  | 22 => ⟨S3x512x128x8, .f32⟩
  | 23 => ⟨S8x512x128x3, .f32⟩
  | 24 => ⟨S4096x384, .f32⟩
  | 25 => ⟨S4096x128, .f32⟩
  | 26 => ⟨S1x128, .f32⟩
  | 27 => ⟨S4096x128, .f32⟩
  | 28 => ⟨S4096x128, .f32⟩
  | 29 => ⟨S8x65536, .f32⟩
  | 30 => ⟨S8x65536, .f32⟩
  | 31 => ⟨S8x65536, .f32⟩
  | 32 => ⟨S_, .f32⟩
  | 33 => ⟨S8x65536, .f32⟩
  | 34 => ⟨S8x65536, .f32⟩
  | 35 => ⟨S_, .f32⟩
  | 36 => ⟨S8x65536, .f32⟩
  | 37 => ⟨S8x65536, .f32⟩
  | 38 => ⟨S8x512x128, .f32⟩
  | 39 => ⟨S8x512x64, .f32⟩
  | 40 => ⟨S8x32768, .f32⟩
  | 41 => ⟨S8x512x64, .f32⟩
  | 42 => ⟨S8x32768, .f32⟩
  | 43 => ⟨S8x32768, .f32⟩
  | 44 => ⟨S8x512x64, .f32⟩
  | 45 => ⟨S8x512x64, .f32⟩
  | 46 => ⟨S8x512x128, .f32⟩
  | 47 => ⟨S512x128x8, .f32⟩
  | 48 => ⟨S512x1024, .f32⟩
  | 49 => ⟨S512x512, .f32⟩
  | 50 => ⟨S512x1024, .f32⟩
  | 51 => ⟨S512x1024, .f32⟩
  | 52 => ⟨S_, .f32⟩
  | 53 => ⟨S512x1024, .f32⟩
  | 54 => ⟨S512x1024, .f32⟩
  | 55 => ⟨S512x1024, .f32⟩
  | 56 => ⟨S1x512x1024, .f32⟩
  | 57 => ⟨S1x512x1024, .f32⟩
  | 58 => ⟨S1x512x1024, .f32⟩
  | 59 => ⟨S3x512x1024, .f32⟩
  | 60 => ⟨S3x512x128x8, .f32⟩
  | 61 => ⟨S8x512x128x3, .f32⟩
  | 62 => ⟨S4096x384, .f32⟩
  | 63 => ⟨S4096x64, .f32⟩
  | 64 => ⟨S1x64, .f32⟩
  | 65 => ⟨S4096x64, .f32⟩
  | 66 => ⟨S4096x64, .f32⟩
  | 67 => ⟨S8x32768, .f32⟩
  | 68 => ⟨S8x32768, .f32⟩
  | 69 => ⟨S8x32768, .f32⟩
  | 70 => ⟨S_, .f32⟩
  | 71 => ⟨S8x32768, .f32⟩
  | 72 => ⟨S8x32768, .f32⟩
  | 73 => ⟨S8x32768, .f32⟩
  | 74 => ⟨S8x32768, .f32⟩
  | 75 => ⟨S1x8x32768, .f32⟩
  | 76 => ⟨S1x8x32768, .f32⟩
  | 77 => ⟨S2x8x32768, .f32⟩
  | 78 => ⟨S8x512x64, .f32⟩
  | 79 => ⟨S8x512x1, .f32⟩
  | 80 => ⟨S1x1x1, .f32⟩
  | 81 => ⟨S8x512x1, .f32⟩
  | 82 => ⟨S8x512x1, .f32⟩
  | 83 => ⟨S8x512, .f32⟩
  | 84 => ⟨S1x8x32768, .f32⟩
  | 85 => ⟨S8x32768, .f32⟩
  | 86 => ⟨S8x512x1, .f32⟩
  | 87 => ⟨S8x512x64, .f32⟩
  | 88 => ⟨S8x512x65, .f32⟩
  | 89 => ⟨S512x65x8, .f32⟩
  | 90 => ⟨S512x520, .f32⟩
  | 91 => ⟨S512x512, .f32⟩
  | 92 => ⟨S512x520, .f32⟩
  | 93 => ⟨S512x520, .f32⟩
  | 94 => ⟨S_, .f32⟩
  | 95 => ⟨S512x520, .f32⟩
  | 96 => ⟨S512x520, .f32⟩
  | 97 => ⟨S512x520, .f32⟩
  | 98 => ⟨S1x512x520, .f32⟩
  | 99 => ⟨S1x512x520, .f32⟩
  | 100 => ⟨S1x512x520, .f32⟩
  | 101 => ⟨S3x512x520, .f32⟩
  | 102 => ⟨S3x512x65x8, .f32⟩
  | 103 => ⟨S8x512x65x3, .f32⟩
  | 104 => ⟨S4096x195, .f32⟩
  | 105 => ⟨S4096x128, .f32⟩
  | 106 => ⟨S1x128, .f32⟩
  | 107 => ⟨S4096x128, .f32⟩
  | 108 => ⟨S4096x128, .f32⟩
  | 109 => ⟨S8x65536, .f32⟩
  | 110 => ⟨S8x65536, .f32⟩
  | 111 => ⟨S8x65536, .f32⟩
  | 112 => ⟨S_, .f32⟩
  | 113 => ⟨S8x65536, .f32⟩
  | 114 => ⟨S8x65536, .f32⟩
  | 115 => ⟨S_, .f32⟩
  | 116 => ⟨S8x65536, .f32⟩
  | 117 => ⟨S8x65536, .f32⟩
  | 118 => ⟨S8x512x128, .f32⟩
  | 119 => ⟨S8x512x64, .f32⟩
  | 120 => ⟨S8x32768, .f32⟩
  | 121 => ⟨S8x512x64, .f32⟩
  | 122 => ⟨S8x32768, .f32⟩
  | 123 => ⟨S8x32768, .f32⟩
  | 124 => ⟨S8x512x1, .f32⟩
  | 125 => ⟨S8x512x64, .f32⟩
  | 126 => ⟨S8x512x65, .f32⟩
  | 127 => ⟨S512x65x8, .f32⟩
  | _ => ⟨S6x8x512x1, .f32⟩

abbrev hbmTy0_4 (i : Nat) : BufTy := match i % 128 with
  | 0 => ⟨S512x520, .f32⟩
  | 1 => ⟨S512x512, .f32⟩
  | 2 => ⟨S512x520, .f32⟩
  | 3 => ⟨S512x520, .f32⟩
  | 4 => ⟨S_, .f32⟩
  | 5 => ⟨S512x520, .f32⟩
  | 6 => ⟨S512x520, .f32⟩
  | 7 => ⟨S512x520, .f32⟩
  | 8 => ⟨S1x512x520, .f32⟩
  | 9 => ⟨S1x512x520, .f32⟩
  | 10 => ⟨S1x512x520, .f32⟩
  | 11 => ⟨S3x512x520, .f32⟩
  | 12 => ⟨S3x512x65x8, .f32⟩
  | 13 => ⟨S8x512x65x3, .f32⟩
  | 14 => ⟨S4096x195, .f32⟩
  | 15 => ⟨S4096x64, .f32⟩
  | 16 => ⟨S1x64, .f32⟩
  | 17 => ⟨S4096x64, .f32⟩
  | 18 => ⟨S4096x64, .f32⟩
  | 19 => ⟨S8x32768, .f32⟩
  | 20 => ⟨S8x32768, .f32⟩
  | 21 => ⟨S8x32768, .f32⟩
  | 22 => ⟨S_, .f32⟩
  | 23 => ⟨S8x32768, .f32⟩
  | 24 => ⟨S8x32768, .f32⟩
  | 25 => ⟨S8x32768, .f32⟩
  | 26 => ⟨S8x32768, .f32⟩
  | 27 => ⟨S1x8x32768, .f32⟩
  | 28 => ⟨S8x32768, .f32⟩
  | 29 => ⟨S8x512x64, .f32⟩
  | 30 => ⟨S8x512x64, .f32⟩
  | 31 => ⟨S8x512x128, .f32⟩
  | 32 => ⟨S512x128x8, .f32⟩
  | 33 => ⟨S512x1024, .f32⟩
  | 34 => ⟨S512x512, .f32⟩
  | 35 => ⟨S512x1024, .f32⟩
  | 36 => ⟨S512x1024, .f32⟩
  | 37 => ⟨S_, .f32⟩
  | 38 => ⟨S512x1024, .f32⟩
  | 39 => ⟨S512x1024, .f32⟩
  | 40 => ⟨S512x1024, .f32⟩
  | 41 => ⟨S1x512x1024, .f32⟩
  | 42 => ⟨S1x512x1024, .f32⟩
  | 43 => ⟨S1x512x1024, .f32⟩
  | 44 => ⟨S3x512x1024, .f32⟩
  | 45 => ⟨S3x512x128x8, .f32⟩
  | 46 => ⟨S8x512x128x3, .f32⟩
  | 47 => ⟨S4096x384, .f32⟩
  | 48 => ⟨S4096x128, .f32⟩
  | 49 => ⟨S1x128, .f32⟩
  | 50 => ⟨S4096x128, .f32⟩
  | 51 => ⟨S4096x128, .f32⟩
  | 52 => ⟨S8x65536, .f32⟩
  | 53 => ⟨S8x65536, .f32⟩
  | 54 => ⟨S8x65536, .f32⟩
  | 55 => ⟨S_, .f32⟩
  | 56 => ⟨S8x65536, .f32⟩
  | 57 => ⟨S8x65536, .f32⟩
  | 58 => ⟨S_, .f32⟩
  | 59 => ⟨S8x65536, .f32⟩
  | 60 => ⟨S8x65536, .f32⟩
  | 61 => ⟨S8x512x128, .f32⟩
  | 62 => ⟨S8x512x64, .f32⟩
  | 63 => ⟨S8x32768, .f32⟩
  | 64 => ⟨S8x512x64, .f32⟩
  | 65 => ⟨S8x32768, .f32⟩
  | 66 => ⟨S8x32768, .f32⟩
  | 67 => ⟨S8x512x64, .f32⟩
  | 68 => ⟨S8x512x64, .f32⟩
  | 69 => ⟨S8x512x128, .f32⟩
  | 70 => ⟨S512x128x8, .f32⟩
  | 71 => ⟨S512x1024, .f32⟩
  | 72 => ⟨S512x512, .f32⟩
  | 73 => ⟨S512x1024, .f32⟩
  | 74 => ⟨S512x1024, .f32⟩
  | 75 => ⟨S_, .f32⟩
  | 76 => ⟨S512x1024, .f32⟩
  | 77 => ⟨S512x1024, .f32⟩
  | 78 => ⟨S512x1024, .f32⟩
  | 79 => ⟨S1x512x1024, .f32⟩
  | 80 => ⟨S1x512x1024, .f32⟩
  | 81 => ⟨S1x512x1024, .f32⟩
  | 82 => ⟨S3x512x1024, .f32⟩
  | 83 => ⟨S3x512x128x8, .f32⟩
  | 84 => ⟨S8x512x128x3, .f32⟩
  | 85 => ⟨S4096x384, .f32⟩
  | 86 => ⟨S4096x64, .f32⟩
  | 87 => ⟨S1x64, .f32⟩
  | 88 => ⟨S4096x64, .f32⟩
  | 89 => ⟨S4096x64, .f32⟩
  | 90 => ⟨S8x32768, .f32⟩
  | 91 => ⟨S8x32768, .f32⟩
  | 92 => ⟨S8x32768, .f32⟩
  | 93 => ⟨S_, .f32⟩
  | 94 => ⟨S8x32768, .f32⟩
  | 95 => ⟨S8x32768, .f32⟩
  | 96 => ⟨S8x32768, .f32⟩
  | 97 => ⟨S8x32768, .f32⟩
  | 98 => ⟨S1x8x32768, .f32⟩
  | 99 => ⟨S1x8x32768, .f32⟩
  | 100 => ⟨S2x8x32768, .f32⟩
  | 101 => ⟨S8x512x64, .f32⟩
  | 102 => ⟨S8x512x1, .f32⟩
  | 103 => ⟨S1x1x1, .f32⟩
  | 104 => ⟨S8x512x1, .f32⟩
  | 105 => ⟨S8x512x1, .f32⟩
  | 106 => ⟨S8x512, .f32⟩
  | 107 => ⟨S1x8x32768, .f32⟩
  | 108 => ⟨S8x32768, .f32⟩
  | 109 => ⟨S8x512x1, .f32⟩
  | 110 => ⟨S8x512x64, .f32⟩
  | 111 => ⟨S8x512x65, .f32⟩
  | 112 => ⟨S512x65x8, .f32⟩
  | 113 => ⟨S512x520, .f32⟩
  | 114 => ⟨S512x512, .f32⟩
  | 115 => ⟨S512x520, .f32⟩
  | 116 => ⟨S512x520, .f32⟩
  | 117 => ⟨S_, .f32⟩
  | 118 => ⟨S512x520, .f32⟩
  | 119 => ⟨S512x520, .f32⟩
  | 120 => ⟨S512x520, .f32⟩
  | 121 => ⟨S1x512x520, .f32⟩
  | 122 => ⟨S1x512x520, .f32⟩
  | 123 => ⟨S1x512x520, .f32⟩
  | 124 => ⟨S3x512x520, .f32⟩
  | 125 => ⟨S3x512x65x8, .f32⟩
  | 126 => ⟨S8x512x65x3, .f32⟩
  | 127 => ⟨S4096x195, .f32⟩
  | _ => ⟨S6x8x512x1, .f32⟩

abbrev hbmTy0_5 (i : Nat) : BufTy := match i % 128 with
  | 0 => ⟨S4096x128, .f32⟩
  | 1 => ⟨S1x128, .f32⟩
  | 2 => ⟨S4096x128, .f32⟩
  | 3 => ⟨S4096x128, .f32⟩
  | 4 => ⟨S8x65536, .f32⟩
  | 5 => ⟨S8x65536, .f32⟩
  | 6 => ⟨S8x65536, .f32⟩
  | 7 => ⟨S_, .f32⟩
  | 8 => ⟨S8x65536, .f32⟩
  | 9 => ⟨S8x65536, .f32⟩
  | 10 => ⟨S_, .f32⟩
  | 11 => ⟨S8x65536, .f32⟩
  | 12 => ⟨S8x65536, .f32⟩
  | 13 => ⟨S8x512x128, .f32⟩
  | 14 => ⟨S8x512x64, .f32⟩
  | 15 => ⟨S8x32768, .f32⟩
  | 16 => ⟨S8x512x64, .f32⟩
  | 17 => ⟨S8x32768, .f32⟩
  | 18 => ⟨S8x32768, .f32⟩
  | 19 => ⟨S8x512x1, .f32⟩
  | 20 => ⟨S8x512x64, .f32⟩
  | 21 => ⟨S8x512x65, .f32⟩
  | 22 => ⟨S512x65x8, .f32⟩
  | 23 => ⟨S512x520, .f32⟩
  | 24 => ⟨S512x512, .f32⟩
  | 25 => ⟨S512x520, .f32⟩
  | 26 => ⟨S512x520, .f32⟩
  | 27 => ⟨S_, .f32⟩
  | 28 => ⟨S512x520, .f32⟩
  | 29 => ⟨S512x520, .f32⟩
  | 30 => ⟨S512x520, .f32⟩
  | 31 => ⟨S1x512x520, .f32⟩
  | 32 => ⟨S1x512x520, .f32⟩
  | 33 => ⟨S1x512x520, .f32⟩
  | 34 => ⟨S3x512x520, .f32⟩
  | 35 => ⟨S3x512x65x8, .f32⟩
  | 36 => ⟨S8x512x65x3, .f32⟩
  | 37 => ⟨S4096x195, .f32⟩
  | 38 => ⟨S4096x64, .f32⟩
  | 39 => ⟨S1x64, .f32⟩
  | 40 => ⟨S4096x64, .f32⟩
  | 41 => ⟨S4096x64, .f32⟩
  | 42 => ⟨S8x32768, .f32⟩
  | 43 => ⟨S8x32768, .f32⟩
  | 44 => ⟨S8x32768, .f32⟩
  | 45 => ⟨S_, .f32⟩
  | 46 => ⟨S8x32768, .f32⟩
  | 47 => ⟨S8x32768, .f32⟩
  | 48 => ⟨S8x32768, .f32⟩
  | 49 => ⟨S8x32768, .f32⟩
  | 50 => ⟨S1x8x32768, .f32⟩
  | 51 => ⟨S8x32768, .f32⟩
  | 52 => ⟨S8x512x64, .f32⟩
  | 53 => ⟨S8x512x64, .f32⟩
  | 54 => ⟨S8x512x128, .f32⟩
  | 55 => ⟨S512x128x8, .f32⟩
  | 56 => ⟨S512x1024, .f32⟩
  | 57 => ⟨S512x512, .f32⟩
  | 58 => ⟨S512x1024, .f32⟩
  | 59 => ⟨S512x1024, .f32⟩
  | 60 => ⟨S_, .f32⟩
  | 61 => ⟨S512x1024, .f32⟩
  | 62 => ⟨S512x1024, .f32⟩
  | 63 => ⟨S512x1024, .f32⟩
  | 64 => ⟨S1x512x1024, .f32⟩
  | 65 => ⟨S1x512x1024, .f32⟩
  | 66 => ⟨S1x512x1024, .f32⟩
  | 67 => ⟨S3x512x1024, .f32⟩
  | 68 => ⟨S3x512x128x8, .f32⟩
  | 69 => ⟨S8x512x128x3, .f32⟩
  | 70 => ⟨S4096x384, .f32⟩
  | 71 => ⟨S4096x128, .f32⟩
  | 72 => ⟨S1x128, .f32⟩
  | 73 => ⟨S4096x128, .f32⟩
  | 74 => ⟨S4096x128, .f32⟩
  | 75 => ⟨S8x65536, .f32⟩
  | 76 => ⟨S8x65536, .f32⟩
  | 77 => ⟨S8x65536, .f32⟩
  | 78 => ⟨S_, .f32⟩
  | 79 => ⟨S8x65536, .f32⟩
  | 80 => ⟨S8x65536, .f32⟩
  | 81 => ⟨S_, .f32⟩
  | 82 => ⟨S8x65536, .f32⟩
  | 83 => ⟨S8x65536, .f32⟩
  | 84 => ⟨S8x512x128, .f32⟩
  | 85 => ⟨S8x512x64, .f32⟩
  | 86 => ⟨S8x32768, .f32⟩
  | 87 => ⟨S8x512x64, .f32⟩
  | 88 => ⟨S8x32768, .f32⟩
  | 89 => ⟨S8x32768, .f32⟩
  | 90 => ⟨S8x512x64, .f32⟩
  | 91 => ⟨S8x512x64, .f32⟩
  | 92 => ⟨S8x512x128, .f32⟩
  | 93 => ⟨S512x128x8, .f32⟩
  | 94 => ⟨S512x1024, .f32⟩
  | 95 => ⟨S512x512, .f32⟩
  | 96 => ⟨S512x1024, .f32⟩
  | 97 => ⟨S512x1024, .f32⟩
  | 98 => ⟨S_, .f32⟩
  | 99 => ⟨S512x1024, .f32⟩
  | 100 => ⟨S512x1024, .f32⟩
  | 101 => ⟨S512x1024, .f32⟩
  | 102 => ⟨S1x512x1024, .f32⟩
  | 103 => ⟨S1x512x1024, .f32⟩
  | 104 => ⟨S1x512x1024, .f32⟩
  | 105 => ⟨S3x512x1024, .f32⟩
  | 106 => ⟨S3x512x128x8, .f32⟩
  | 107 => ⟨S8x512x128x3, .f32⟩
  | 108 => ⟨S4096x384, .f32⟩
  | 109 => ⟨S4096x64, .f32⟩
  | 110 => ⟨S1x64, .f32⟩
  | 111 => ⟨S4096x64, .f32⟩
  | 112 => ⟨S4096x64, .f32⟩
  | 113 => ⟨S8x32768, .f32⟩
  | 114 => ⟨S8x32768, .f32⟩
  | 115 => ⟨S8x32768, .f32⟩
  | 116 => ⟨S_, .f32⟩
  | 117 => ⟨S8x32768, .f32⟩
  | 118 => ⟨S8x32768, .f32⟩
  | 119 => ⟨S8x32768, .f32⟩
  | 120 => ⟨S8x32768, .f32⟩
  | 121 => ⟨S1x8x32768, .f32⟩
  | 122 => ⟨S1x8x32768, .f32⟩
  | 123 => ⟨S2x8x32768, .f32⟩
  | 124 => ⟨S8x512x64, .f32⟩
  | 125 => ⟨S8x512x1, .f32⟩
  | 126 => ⟨S1x1x1, .f32⟩
  | 127 => ⟨S8x512x1, .f32⟩
  | _ => ⟨S6x8x512x1, .f32⟩

abbrev hbmTy0_6 (i : Nat) : BufTy := match i % 128 with
  | 0 => ⟨S8x512x1, .f32⟩
  | 1 => ⟨S8x512, .f32⟩
  | 2 => ⟨S1x8x32768, .f32⟩
  | 3 => ⟨S8x32768, .f32⟩
  | 4 => ⟨S8x512x1, .f32⟩
  | 5 => ⟨S8x512x64, .f32⟩
  | 6 => ⟨S8x512x65, .f32⟩
  | 7 => ⟨S512x65x8, .f32⟩
  | 8 => ⟨S512x520, .f32⟩
  | 9 => ⟨S512x512, .f32⟩
  | 10 => ⟨S512x520, .f32⟩
  | 11 => ⟨S512x520, .f32⟩
  | 12 => ⟨S_, .f32⟩
  | 13 => ⟨S512x520, .f32⟩
  | 14 => ⟨S512x520, .f32⟩
  | 15 => ⟨S512x520, .f32⟩
  | 16 => ⟨S1x512x520, .f32⟩
  | 17 => ⟨S1x512x520, .f32⟩
  | 18 => ⟨S1x512x520, .f32⟩
  | 19 => ⟨S3x512x520, .f32⟩
  | 20 => ⟨S3x512x65x8, .f32⟩
  | 21 => ⟨S8x512x65x3, .f32⟩
  | 22 => ⟨S4096x195, .f32⟩
  | 23 => ⟨S4096x128, .f32⟩
  | 24 => ⟨S1x128, .f32⟩
  | 25 => ⟨S4096x128, .f32⟩
  | 26 => ⟨S4096x128, .f32⟩
  | 27 => ⟨S8x65536, .f32⟩
  | 28 => ⟨S8x65536, .f32⟩
  | 29 => ⟨S8x65536, .f32⟩
  | 30 => ⟨S_, .f32⟩
  | 31 => ⟨S8x65536, .f32⟩
  | 32 => ⟨S8x65536, .f32⟩
  | 33 => ⟨S_, .f32⟩
  | 34 => ⟨S8x65536, .f32⟩
  | 35 => ⟨S8x65536, .f32⟩
  | 36 => ⟨S8x512x128, .f32⟩
  | 37 => ⟨S8x512x64, .f32⟩
  | 38 => ⟨S8x32768, .f32⟩
  | 39 => ⟨S8x512x64, .f32⟩
  | 40 => ⟨S8x32768, .f32⟩
  | 41 => ⟨S8x32768, .f32⟩
  | 42 => ⟨S8x512x1, .f32⟩
  | 43 => ⟨S8x512x64, .f32⟩
  | 44 => ⟨S8x512x65, .f32⟩
  | 45 => ⟨S512x65x8, .f32⟩
  | 46 => ⟨S512x520, .f32⟩
  | 47 => ⟨S512x512, .f32⟩
  | 48 => ⟨S512x520, .f32⟩
  | 49 => ⟨S512x520, .f32⟩
  | 50 => ⟨S_, .f32⟩
  | 51 => ⟨S512x520, .f32⟩
  | 52 => ⟨S512x520, .f32⟩
  | 53 => ⟨S512x520, .f32⟩
  | 54 => ⟨S1x512x520, .f32⟩
  | 55 => ⟨S1x512x520, .f32⟩
  | 56 => ⟨S1x512x520, .f32⟩
  | 57 => ⟨S3x512x520, .f32⟩
  | 58 => ⟨S3x512x65x8, .f32⟩
  | 59 => ⟨S8x512x65x3, .f32⟩
  | 60 => ⟨S4096x195, .f32⟩
  | 61 => ⟨S4096x64, .f32⟩
  | 62 => ⟨S1x64, .f32⟩
  | 63 => ⟨S4096x64, .f32⟩
  | 64 => ⟨S4096x64, .f32⟩
  | 65 => ⟨S8x32768, .f32⟩
  | 66 => ⟨S8x32768, .f32⟩
  | 67 => ⟨S8x32768, .f32⟩
  | 68 => ⟨S_, .f32⟩
  | 69 => ⟨S8x32768, .f32⟩
  | 70 => ⟨S8x32768, .f32⟩
  | 71 => ⟨S8x32768, .f32⟩
  | 72 => ⟨S8x32768, .f32⟩
  | 73 => ⟨S1x8x32768, .f32⟩
  | 74 => ⟨S8x32768, .f32⟩
  | 75 => ⟨S8x512x64, .f32⟩
  | 76 => ⟨S8x512x64, .f32⟩
  | 77 => ⟨S8x512x128, .f32⟩
  | 78 => ⟨S512x128x8, .f32⟩
  | 79 => ⟨S512x1024, .f32⟩
  | 80 => ⟨S512x512, .f32⟩
  | 81 => ⟨S512x1024, .f32⟩
  | 82 => ⟨S512x1024, .f32⟩
  | 83 => ⟨S_, .f32⟩
  | 84 => ⟨S512x1024, .f32⟩
  | 85 => ⟨S512x1024, .f32⟩
  | 86 => ⟨S512x1024, .f32⟩
  | 87 => ⟨S1x512x1024, .f32⟩
  | 88 => ⟨S1x512x1024, .f32⟩
  | 89 => ⟨S1x512x1024, .f32⟩
  | 90 => ⟨S3x512x1024, .f32⟩
  | 91 => ⟨S3x512x128x8, .f32⟩
  | 92 => ⟨S8x512x128x3, .f32⟩
  | 93 => ⟨S4096x384, .f32⟩
  | 94 => ⟨S4096x128, .f32⟩
  | 95 => ⟨S1x128, .f32⟩
  | 96 => ⟨S4096x128, .f32⟩
  | 97 => ⟨S4096x128, .f32⟩
  | 98 => ⟨S8x65536, .f32⟩
  | 99 => ⟨S8x65536, .f32⟩
  | 100 => ⟨S8x65536, .f32⟩
  | 101 => ⟨S_, .f32⟩
  | 102 => ⟨S8x65536, .f32⟩
  | 103 => ⟨S8x65536, .f32⟩
  | 104 => ⟨S_, .f32⟩
  | 105 => ⟨S8x65536, .f32⟩
  | 106 => ⟨S8x65536, .f32⟩
  | 107 => ⟨S8x512x128, .f32⟩
  | 108 => ⟨S8x512x64, .f32⟩
  | 109 => ⟨S8x32768, .f32⟩
  | 110 => ⟨S8x512x64, .f32⟩
  | 111 => ⟨S8x32768, .f32⟩
  | 112 => ⟨S8x32768, .f32⟩
  | 113 => ⟨S8x512x64, .f32⟩
  | 114 => ⟨S8x512x64, .f32⟩
  | 115 => ⟨S8x512x128, .f32⟩
  | 116 => ⟨S512x128x8, .f32⟩
  | 117 => ⟨S512x1024, .f32⟩
  | 118 => ⟨S512x512, .f32⟩
  | 119 => ⟨S512x1024, .f32⟩
  | 120 => ⟨S512x1024, .f32⟩
  | 121 => ⟨S_, .f32⟩
  | 122 => ⟨S512x1024, .f32⟩
  | 123 => ⟨S512x1024, .f32⟩
  | 124 => ⟨S512x1024, .f32⟩
  | 125 => ⟨S1x512x1024, .f32⟩
  | 126 => ⟨S1x512x1024, .f32⟩
  | 127 => ⟨S1x512x1024, .f32⟩
  | _ => ⟨S6x8x512x1, .f32⟩

abbrev hbmTy0_7 (i : Nat) : BufTy := match i % 128 with
  | 0 => ⟨S3x512x1024, .f32⟩
  | 1 => ⟨S3x512x128x8, .f32⟩
  | 2 => ⟨S8x512x128x3, .f32⟩
  | 3 => ⟨S4096x384, .f32⟩
  | 4 => ⟨S4096x64, .f32⟩
  | 5 => ⟨S1x64, .f32⟩
  | 6 => ⟨S4096x64, .f32⟩
  | 7 => ⟨S4096x64, .f32⟩
  | 8 => ⟨S8x32768, .f32⟩
  | 9 => ⟨S8x32768, .f32⟩
  | 10 => ⟨S8x32768, .f32⟩
  | 11 => ⟨S_, .f32⟩
  | 12 => ⟨S8x32768, .f32⟩
  | 13 => ⟨S8x32768, .f32⟩
  | 14 => ⟨S8x32768, .f32⟩
  | 15 => ⟨S8x32768, .f32⟩
  | 16 => ⟨S1x8x32768, .f32⟩
  | 17 => ⟨S1x8x32768, .f32⟩
  | 18 => ⟨S2x8x32768, .f32⟩
  | 19 => ⟨S8x512x64, .f32⟩
  | 20 => ⟨S8x512x1, .f32⟩
  | 21 => ⟨S1x1x1, .f32⟩
  | 22 => ⟨S8x512x1, .f32⟩
  | 23 => ⟨S8x512x1, .f32⟩
  | 24 => ⟨S8x512, .f32⟩
  | 25 => ⟨S1x8x512, .f32⟩
  | 26 => ⟨S1x8x512, .f32⟩
  | 27 => ⟨S1x8x512, .f32⟩
  | 28 => ⟨S1x8x512, .f32⟩
  | 29 => ⟨S1x8x512, .f32⟩
  | 30 => ⟨S1x8x512, .f32⟩
  | 31 => ⟨S6x8x512, .f32⟩
  | 32 => ⟨S6x1x4096, .f32⟩
  | _ => ⟨S6x8x512x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S6x8x512x1, .f32⟩

abbrev bufTy : (tb : Table) → Fin (tcTables nBuf tb) → BufTy
  | .hbm, ⟨i, _⟩ => hbmTy i
  | _, _ => ⟨S6x8x512x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_4 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_5 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_6 : Ref sig .tc := ⟨.hbm, 114, rfl⟩
abbrev main_v94 : Ref sig .tc := ⟨.hbm, 115, rfl⟩
abbrev main_v95 : Ref sig .tc := ⟨.hbm, 116, rfl⟩
abbrev main_cst_7 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_cst_8 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_cst_9 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_cst_10 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_cst_11 : Ref sig .tc := ⟨.hbm, 194, rfl⟩
abbrev main_v169 : Ref sig .tc := ⟨.hbm, 195, rfl⟩
abbrev main_v170 : Ref sig .tc := ⟨.hbm, 196, rfl⟩
abbrev main_cst_12 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_cst_13 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_cst_14 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_cst_15 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_cst_16 : Ref sig .tc := ⟨.hbm, 265, rfl⟩
abbrev main_v235 : Ref sig .tc := ⟨.hbm, 266, rfl⟩
abbrev main_v236 : Ref sig .tc := ⟨.hbm, 267, rfl⟩
abbrev main_cst_17 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_v249 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev main_cst_18 : Ref sig .tc := ⟨.hbm, 285, rfl⟩
abbrev main_v253 : Ref sig .tc := ⟨.hbm, 286, rfl⟩
abbrev main_v254 : Ref sig .tc := ⟨.hbm, 287, rfl⟩
abbrev main_v255 : Ref sig .tc := ⟨.hbm, 288, rfl⟩
abbrev main_v256 : Ref sig .tc := ⟨.hbm, 289, rfl⟩
abbrev main_v257 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_cst_19 : Ref sig .tc := ⟨.hbm, 303, rfl⟩
abbrev main_v270 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_v292 : Ref sig .tc := ⟨.hbm, 326, rfl⟩
abbrev main_cst_20 : Ref sig .tc := ⟨.hbm, 327, rfl⟩
abbrev main_v293 : Ref sig .tc := ⟨.hbm, 328, rfl⟩
abbrev main_v294 : Ref sig .tc := ⟨.hbm, 329, rfl⟩
abbrev main_v295 : Ref sig .tc := ⟨.hbm, 330, rfl⟩
abbrev main_v296 : Ref sig .tc := ⟨.hbm, 331, rfl⟩
abbrev main_v297 : Ref sig .tc := ⟨.hbm, 332, rfl⟩
abbrev main_v298 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_v303 : Ref sig .tc := ⟨.hbm, 338, rfl⟩
abbrev main_v304 : Ref sig .tc := ⟨.hbm, 339, rfl⟩
abbrev main_v305 : Ref sig .tc := ⟨.hbm, 340, rfl⟩
abbrev main_v306 : Ref sig .tc := ⟨.hbm, 341, rfl⟩
abbrev main_v307 : Ref sig .tc := ⟨.hbm, 342, rfl⟩
abbrev main_v308 : Ref sig .tc := ⟨.hbm, 343, rfl⟩
abbrev main_v309 : Ref sig .tc := ⟨.hbm, 344, rfl⟩
abbrev main_cst_21 : Ref sig .tc := ⟨.hbm, 345, rfl⟩
abbrev main_v310 : Ref sig .tc := ⟨.hbm, 346, rfl⟩
abbrev main_v311 : Ref sig .tc := ⟨.hbm, 347, rfl⟩
abbrev main_cst_22 : Ref sig .tc := ⟨.hbm, 348, rfl⟩
abbrev main_v312 : Ref sig .tc := ⟨.hbm, 349, rfl⟩
abbrev main_v313 : Ref sig .tc := ⟨.hbm, 350, rfl⟩
abbrev main_v314 : Ref sig .tc := ⟨.hbm, 351, rfl⟩
abbrev main_v315 : Ref sig .tc := ⟨.hbm, 352, rfl⟩
abbrev main_v316 : Ref sig .tc := ⟨.hbm, 353, rfl⟩
abbrev main_v317 : Ref sig .tc := ⟨.hbm, 354, rfl⟩
abbrev main_v318 : Ref sig .tc := ⟨.hbm, 355, rfl⟩
abbrev main_v319 : Ref sig .tc := ⟨.hbm, 356, rfl⟩
abbrev main_v320 : Ref sig .tc := ⟨.hbm, 357, rfl⟩
abbrev main_v321 : Ref sig .tc := ⟨.hbm, 358, rfl⟩
abbrev main_v322 : Ref sig .tc := ⟨.hbm, 359, rfl⟩
abbrev main_v323 : Ref sig .tc := ⟨.hbm, 360, rfl⟩
abbrev main_v324 : Ref sig .tc := ⟨.hbm, 361, rfl⟩
abbrev main_v325 : Ref sig .tc := ⟨.hbm, 362, rfl⟩
abbrev main_v326 : Ref sig .tc := ⟨.hbm, 363, rfl⟩
abbrev main_v327 : Ref sig .tc := ⟨.hbm, 364, rfl⟩
abbrev main_cst_23 : Ref sig .tc := ⟨.hbm, 365, rfl⟩
abbrev main_v328 : Ref sig .tc := ⟨.hbm, 366, rfl⟩
abbrev main_v329 : Ref sig .tc := ⟨.hbm, 367, rfl⟩
abbrev main_v330 : Ref sig .tc := ⟨.hbm, 368, rfl⟩
abbrev main_v331 : Ref sig .tc := ⟨.hbm, 369, rfl⟩
abbrev main_v332 : Ref sig .tc := ⟨.hbm, 370, rfl⟩
abbrev main_v333 : Ref sig .tc := ⟨.hbm, 371, rfl⟩
abbrev main_v334 : Ref sig .tc := ⟨.hbm, 372, rfl⟩
abbrev main_v335 : Ref sig .tc := ⟨.hbm, 373, rfl⟩
abbrev main_v336 : Ref sig .tc := ⟨.hbm, 374, rfl⟩
abbrev main_v337 : Ref sig .tc := ⟨.hbm, 375, rfl⟩
abbrev main_v338 : Ref sig .tc := ⟨.hbm, 376, rfl⟩
abbrev main_v339 : Ref sig .tc := ⟨.hbm, 377, rfl⟩
abbrev main_v340 : Ref sig .tc := ⟨.hbm, 378, rfl⟩
abbrev main_v341 : Ref sig .tc := ⟨.hbm, 379, rfl⟩
abbrev main_v342 : Ref sig .tc := ⟨.hbm, 380, rfl⟩
abbrev main_v343 : Ref sig .tc := ⟨.hbm, 381, rfl⟩
abbrev main_v344 : Ref sig .tc := ⟨.hbm, 382, rfl⟩
abbrev main_cst_24 : Ref sig .tc := ⟨.hbm, 383, rfl⟩
abbrev main_v345 : Ref sig .tc := ⟨.hbm, 384, rfl⟩
abbrev main_v346 : Ref sig .tc := ⟨.hbm, 385, rfl⟩
abbrev main_v347 : Ref sig .tc := ⟨.hbm, 386, rfl⟩
abbrev main_v348 : Ref sig .tc := ⟨.hbm, 387, rfl⟩
abbrev main_v349 : Ref sig .tc := ⟨.hbm, 388, rfl⟩
abbrev main_v350 : Ref sig .tc := ⟨.hbm, 389, rfl⟩
abbrev main_v351 : Ref sig .tc := ⟨.hbm, 390, rfl⟩
abbrev main_v352 : Ref sig .tc := ⟨.hbm, 391, rfl⟩
abbrev main_v353 : Ref sig .tc := ⟨.hbm, 392, rfl⟩
abbrev main_v354 : Ref sig .tc := ⟨.hbm, 393, rfl⟩
abbrev main_v355 : Ref sig .tc := ⟨.hbm, 394, rfl⟩
abbrev main_v356 : Ref sig .tc := ⟨.hbm, 395, rfl⟩
abbrev main_v357 : Ref sig .tc := ⟨.hbm, 396, rfl⟩
abbrev main_v358 : Ref sig .tc := ⟨.hbm, 397, rfl⟩
abbrev main_cst_25 : Ref sig .tc := ⟨.hbm, 398, rfl⟩
abbrev main_v359 : Ref sig .tc := ⟨.hbm, 399, rfl⟩
abbrev main_v360 : Ref sig .tc := ⟨.hbm, 400, rfl⟩
abbrev main_v361 : Ref sig .tc := ⟨.hbm, 401, rfl⟩
abbrev main_v362 : Ref sig .tc := ⟨.hbm, 402, rfl⟩
abbrev main_v363 : Ref sig .tc := ⟨.hbm, 403, rfl⟩
abbrev main_v364 : Ref sig .tc := ⟨.hbm, 404, rfl⟩
abbrev main_v365 : Ref sig .tc := ⟨.hbm, 405, rfl⟩
abbrev main_v366 : Ref sig .tc := ⟨.hbm, 406, rfl⟩
abbrev main_v367 : Ref sig .tc := ⟨.hbm, 407, rfl⟩
abbrev main_v368 : Ref sig .tc := ⟨.hbm, 408, rfl⟩
abbrev main_v369 : Ref sig .tc := ⟨.hbm, 409, rfl⟩
abbrev main_v370 : Ref sig .tc := ⟨.hbm, 410, rfl⟩
abbrev main_v371 : Ref sig .tc := ⟨.hbm, 411, rfl⟩
abbrev main_v372 : Ref sig .tc := ⟨.hbm, 412, rfl⟩
abbrev main_v373 : Ref sig .tc := ⟨.hbm, 413, rfl⟩
abbrev main_v374 : Ref sig .tc := ⟨.hbm, 414, rfl⟩
abbrev main_v375 : Ref sig .tc := ⟨.hbm, 415, rfl⟩
abbrev main_cst_26 : Ref sig .tc := ⟨.hbm, 416, rfl⟩
abbrev main_v376 : Ref sig .tc := ⟨.hbm, 417, rfl⟩
abbrev main_v377 : Ref sig .tc := ⟨.hbm, 418, rfl⟩
abbrev main_cst_27 : Ref sig .tc := ⟨.hbm, 419, rfl⟩
abbrev main_v378 : Ref sig .tc := ⟨.hbm, 420, rfl⟩
abbrev main_v379 : Ref sig .tc := ⟨.hbm, 421, rfl⟩
abbrev main_v380 : Ref sig .tc := ⟨.hbm, 422, rfl⟩
abbrev main_v381 : Ref sig .tc := ⟨.hbm, 423, rfl⟩
abbrev main_v382 : Ref sig .tc := ⟨.hbm, 424, rfl⟩
abbrev main_v383 : Ref sig .tc := ⟨.hbm, 425, rfl⟩
abbrev main_v384 : Ref sig .tc := ⟨.hbm, 426, rfl⟩
abbrev main_v385 : Ref sig .tc := ⟨.hbm, 427, rfl⟩
abbrev main_v386 : Ref sig .tc := ⟨.hbm, 428, rfl⟩
abbrev main_v387 : Ref sig .tc := ⟨.hbm, 429, rfl⟩
abbrev main_v388 : Ref sig .tc := ⟨.hbm, 430, rfl⟩
abbrev main_v389 : Ref sig .tc := ⟨.hbm, 431, rfl⟩
abbrev main_v390 : Ref sig .tc := ⟨.hbm, 432, rfl⟩
abbrev main_v391 : Ref sig .tc := ⟨.hbm, 433, rfl⟩
abbrev main_v392 : Ref sig .tc := ⟨.hbm, 434, rfl⟩
abbrev main_v393 : Ref sig .tc := ⟨.hbm, 435, rfl⟩
abbrev main_cst_28 : Ref sig .tc := ⟨.hbm, 436, rfl⟩
abbrev main_v394 : Ref sig .tc := ⟨.hbm, 437, rfl⟩
abbrev main_v395 : Ref sig .tc := ⟨.hbm, 438, rfl⟩
abbrev main_v396 : Ref sig .tc := ⟨.hbm, 439, rfl⟩
abbrev main_v397 : Ref sig .tc := ⟨.hbm, 440, rfl⟩
abbrev main_v398 : Ref sig .tc := ⟨.hbm, 441, rfl⟩
abbrev main_v399 : Ref sig .tc := ⟨.hbm, 442, rfl⟩
abbrev main_v400 : Ref sig .tc := ⟨.hbm, 443, rfl⟩
abbrev main_v401 : Ref sig .tc := ⟨.hbm, 444, rfl⟩
abbrev main_v402 : Ref sig .tc := ⟨.hbm, 445, rfl⟩
abbrev main_v403 : Ref sig .tc := ⟨.hbm, 446, rfl⟩
abbrev main_v404 : Ref sig .tc := ⟨.hbm, 447, rfl⟩
abbrev main_v405 : Ref sig .tc := ⟨.hbm, 448, rfl⟩
abbrev main_v406 : Ref sig .tc := ⟨.hbm, 449, rfl⟩
abbrev main_v407 : Ref sig .tc := ⟨.hbm, 450, rfl⟩
abbrev main_v408 : Ref sig .tc := ⟨.hbm, 451, rfl⟩
abbrev main_v409 : Ref sig .tc := ⟨.hbm, 452, rfl⟩
abbrev main_v410 : Ref sig .tc := ⟨.hbm, 453, rfl⟩
abbrev main_cst_29 : Ref sig .tc := ⟨.hbm, 454, rfl⟩
abbrev main_v411 : Ref sig .tc := ⟨.hbm, 455, rfl⟩
abbrev main_v412 : Ref sig .tc := ⟨.hbm, 456, rfl⟩
abbrev main_v413 : Ref sig .tc := ⟨.hbm, 457, rfl⟩
abbrev main_v414 : Ref sig .tc := ⟨.hbm, 458, rfl⟩
abbrev main_v415 : Ref sig .tc := ⟨.hbm, 459, rfl⟩
abbrev main_v416 : Ref sig .tc := ⟨.hbm, 460, rfl⟩
abbrev main_v417 : Ref sig .tc := ⟨.hbm, 461, rfl⟩
abbrev main_v418 : Ref sig .tc := ⟨.hbm, 462, rfl⟩
abbrev main_v419 : Ref sig .tc := ⟨.hbm, 463, rfl⟩
abbrev main_v420 : Ref sig .tc := ⟨.hbm, 464, rfl⟩
abbrev main_v421 : Ref sig .tc := ⟨.hbm, 465, rfl⟩
abbrev main_v422 : Ref sig .tc := ⟨.hbm, 466, rfl⟩
abbrev main_v423 : Ref sig .tc := ⟨.hbm, 467, rfl⟩
abbrev main_v424 : Ref sig .tc := ⟨.hbm, 468, rfl⟩
abbrev main_v425 : Ref sig .tc := ⟨.hbm, 469, rfl⟩
abbrev main_v426 : Ref sig .tc := ⟨.hbm, 470, rfl⟩
abbrev main_v427 : Ref sig .tc := ⟨.hbm, 471, rfl⟩
abbrev main_v428 : Ref sig .tc := ⟨.hbm, 472, rfl⟩
abbrev main_v429 : Ref sig .tc := ⟨.hbm, 473, rfl⟩
abbrev main_v430 : Ref sig .tc := ⟨.hbm, 474, rfl⟩
abbrev main_v431 : Ref sig .tc := ⟨.hbm, 475, rfl⟩
abbrev main_v432 : Ref sig .tc := ⟨.hbm, 476, rfl⟩
abbrev main_v433 : Ref sig .tc := ⟨.hbm, 477, rfl⟩
abbrev main_cst_30 : Ref sig .tc := ⟨.hbm, 478, rfl⟩
abbrev main_v434 : Ref sig .tc := ⟨.hbm, 479, rfl⟩
abbrev main_v435 : Ref sig .tc := ⟨.hbm, 480, rfl⟩
abbrev main_v436 : Ref sig .tc := ⟨.hbm, 481, rfl⟩
abbrev main_v437 : Ref sig .tc := ⟨.hbm, 482, rfl⟩
abbrev main_v438 : Ref sig .tc := ⟨.hbm, 483, rfl⟩
abbrev main_v439 : Ref sig .tc := ⟨.hbm, 484, rfl⟩
abbrev main_v440 : Ref sig .tc := ⟨.hbm, 485, rfl⟩
abbrev main_v441 : Ref sig .tc := ⟨.hbm, 486, rfl⟩
abbrev main_v442 : Ref sig .tc := ⟨.hbm, 487, rfl⟩
abbrev main_v443 : Ref sig .tc := ⟨.hbm, 488, rfl⟩
abbrev main_v444 : Ref sig .tc := ⟨.hbm, 489, rfl⟩
abbrev main_v445 : Ref sig .tc := ⟨.hbm, 490, rfl⟩
abbrev main_v446 : Ref sig .tc := ⟨.hbm, 491, rfl⟩
abbrev main_v447 : Ref sig .tc := ⟨.hbm, 492, rfl⟩
abbrev main_v448 : Ref sig .tc := ⟨.hbm, 493, rfl⟩
abbrev main_v449 : Ref sig .tc := ⟨.hbm, 494, rfl⟩
abbrev main_v450 : Ref sig .tc := ⟨.hbm, 495, rfl⟩
abbrev main_cst_31 : Ref sig .tc := ⟨.hbm, 496, rfl⟩
abbrev main_v451 : Ref sig .tc := ⟨.hbm, 497, rfl⟩
abbrev main_v452 : Ref sig .tc := ⟨.hbm, 498, rfl⟩
abbrev main_cst_32 : Ref sig .tc := ⟨.hbm, 499, rfl⟩
abbrev main_v453 : Ref sig .tc := ⟨.hbm, 500, rfl⟩
abbrev main_v454 : Ref sig .tc := ⟨.hbm, 501, rfl⟩
abbrev main_v455 : Ref sig .tc := ⟨.hbm, 502, rfl⟩
abbrev main_v456 : Ref sig .tc := ⟨.hbm, 503, rfl⟩
abbrev main_v457 : Ref sig .tc := ⟨.hbm, 504, rfl⟩
abbrev main_v458 : Ref sig .tc := ⟨.hbm, 505, rfl⟩
abbrev main_v459 : Ref sig .tc := ⟨.hbm, 506, rfl⟩
abbrev main_v460 : Ref sig .tc := ⟨.hbm, 507, rfl⟩
abbrev main_v461 : Ref sig .tc := ⟨.hbm, 508, rfl⟩
abbrev main_v462 : Ref sig .tc := ⟨.hbm, 509, rfl⟩
abbrev main_v463 : Ref sig .tc := ⟨.hbm, 510, rfl⟩
abbrev main_v464 : Ref sig .tc := ⟨.hbm, 511, rfl⟩
abbrev main_v465 : Ref sig .tc := ⟨.hbm, 512, rfl⟩
abbrev main_v466 : Ref sig .tc := ⟨.hbm, 513, rfl⟩
abbrev main_v467 : Ref sig .tc := ⟨.hbm, 514, rfl⟩
abbrev main_v468 : Ref sig .tc := ⟨.hbm, 515, rfl⟩
abbrev main_cst_33 : Ref sig .tc := ⟨.hbm, 516, rfl⟩
abbrev main_v469 : Ref sig .tc := ⟨.hbm, 517, rfl⟩
abbrev main_v470 : Ref sig .tc := ⟨.hbm, 518, rfl⟩
abbrev main_v471 : Ref sig .tc := ⟨.hbm, 519, rfl⟩
abbrev main_v472 : Ref sig .tc := ⟨.hbm, 520, rfl⟩
abbrev main_v473 : Ref sig .tc := ⟨.hbm, 521, rfl⟩
abbrev main_v474 : Ref sig .tc := ⟨.hbm, 522, rfl⟩
abbrev main_v475 : Ref sig .tc := ⟨.hbm, 523, rfl⟩
abbrev main_v476 : Ref sig .tc := ⟨.hbm, 524, rfl⟩
abbrev main_v477 : Ref sig .tc := ⟨.hbm, 525, rfl⟩
abbrev main_v478 : Ref sig .tc := ⟨.hbm, 526, rfl⟩
abbrev main_v479 : Ref sig .tc := ⟨.hbm, 527, rfl⟩
abbrev main_v480 : Ref sig .tc := ⟨.hbm, 528, rfl⟩
abbrev main_v481 : Ref sig .tc := ⟨.hbm, 529, rfl⟩
abbrev main_v482 : Ref sig .tc := ⟨.hbm, 530, rfl⟩
abbrev main_v483 : Ref sig .tc := ⟨.hbm, 531, rfl⟩
abbrev main_v484 : Ref sig .tc := ⟨.hbm, 532, rfl⟩
abbrev main_v485 : Ref sig .tc := ⟨.hbm, 533, rfl⟩
abbrev main_cst_34 : Ref sig .tc := ⟨.hbm, 534, rfl⟩
abbrev main_v486 : Ref sig .tc := ⟨.hbm, 535, rfl⟩
abbrev main_v487 : Ref sig .tc := ⟨.hbm, 536, rfl⟩
abbrev main_v488 : Ref sig .tc := ⟨.hbm, 537, rfl⟩
abbrev main_v489 : Ref sig .tc := ⟨.hbm, 538, rfl⟩
abbrev main_v490 : Ref sig .tc := ⟨.hbm, 539, rfl⟩
abbrev main_v491 : Ref sig .tc := ⟨.hbm, 540, rfl⟩
abbrev main_v492 : Ref sig .tc := ⟨.hbm, 541, rfl⟩
abbrev main_v493 : Ref sig .tc := ⟨.hbm, 542, rfl⟩
abbrev main_v494 : Ref sig .tc := ⟨.hbm, 543, rfl⟩
abbrev main_v495 : Ref sig .tc := ⟨.hbm, 544, rfl⟩
abbrev main_v496 : Ref sig .tc := ⟨.hbm, 545, rfl⟩
abbrev main_v497 : Ref sig .tc := ⟨.hbm, 546, rfl⟩
abbrev main_v498 : Ref sig .tc := ⟨.hbm, 547, rfl⟩
abbrev main_v499 : Ref sig .tc := ⟨.hbm, 548, rfl⟩
abbrev main_cst_35 : Ref sig .tc := ⟨.hbm, 549, rfl⟩
abbrev main_v500 : Ref sig .tc := ⟨.hbm, 550, rfl⟩
abbrev main_v501 : Ref sig .tc := ⟨.hbm, 551, rfl⟩
abbrev main_v502 : Ref sig .tc := ⟨.hbm, 552, rfl⟩
abbrev main_v503 : Ref sig .tc := ⟨.hbm, 553, rfl⟩
abbrev main_v504 : Ref sig .tc := ⟨.hbm, 554, rfl⟩
abbrev main_v505 : Ref sig .tc := ⟨.hbm, 555, rfl⟩
abbrev main_v506 : Ref sig .tc := ⟨.hbm, 556, rfl⟩
abbrev main_v507 : Ref sig .tc := ⟨.hbm, 557, rfl⟩
abbrev main_v508 : Ref sig .tc := ⟨.hbm, 558, rfl⟩
abbrev main_v509 : Ref sig .tc := ⟨.hbm, 559, rfl⟩
abbrev main_v510 : Ref sig .tc := ⟨.hbm, 560, rfl⟩
abbrev main_v511 : Ref sig .tc := ⟨.hbm, 561, rfl⟩
abbrev main_v512 : Ref sig .tc := ⟨.hbm, 562, rfl⟩
abbrev main_v513 : Ref sig .tc := ⟨.hbm, 563, rfl⟩
abbrev main_v514 : Ref sig .tc := ⟨.hbm, 564, rfl⟩
abbrev main_v515 : Ref sig .tc := ⟨.hbm, 565, rfl⟩
abbrev main_v516 : Ref sig .tc := ⟨.hbm, 566, rfl⟩
abbrev main_cst_36 : Ref sig .tc := ⟨.hbm, 567, rfl⟩
abbrev main_v517 : Ref sig .tc := ⟨.hbm, 568, rfl⟩
abbrev main_v518 : Ref sig .tc := ⟨.hbm, 569, rfl⟩
abbrev main_cst_37 : Ref sig .tc := ⟨.hbm, 570, rfl⟩
abbrev main_v519 : Ref sig .tc := ⟨.hbm, 571, rfl⟩
abbrev main_v520 : Ref sig .tc := ⟨.hbm, 572, rfl⟩
abbrev main_v521 : Ref sig .tc := ⟨.hbm, 573, rfl⟩
abbrev main_v522 : Ref sig .tc := ⟨.hbm, 574, rfl⟩
abbrev main_v523 : Ref sig .tc := ⟨.hbm, 575, rfl⟩
abbrev main_v524 : Ref sig .tc := ⟨.hbm, 576, rfl⟩
abbrev main_v525 : Ref sig .tc := ⟨.hbm, 577, rfl⟩
abbrev main_v526 : Ref sig .tc := ⟨.hbm, 578, rfl⟩
abbrev main_v527 : Ref sig .tc := ⟨.hbm, 579, rfl⟩
abbrev main_v528 : Ref sig .tc := ⟨.hbm, 580, rfl⟩
abbrev main_v529 : Ref sig .tc := ⟨.hbm, 581, rfl⟩
abbrev main_v530 : Ref sig .tc := ⟨.hbm, 582, rfl⟩
abbrev main_v531 : Ref sig .tc := ⟨.hbm, 583, rfl⟩
abbrev main_v532 : Ref sig .tc := ⟨.hbm, 584, rfl⟩
abbrev main_v533 : Ref sig .tc := ⟨.hbm, 585, rfl⟩
abbrev main_v534 : Ref sig .tc := ⟨.hbm, 586, rfl⟩
abbrev main_cst_38 : Ref sig .tc := ⟨.hbm, 587, rfl⟩
abbrev main_v535 : Ref sig .tc := ⟨.hbm, 588, rfl⟩
abbrev main_v536 : Ref sig .tc := ⟨.hbm, 589, rfl⟩
abbrev main_v537 : Ref sig .tc := ⟨.hbm, 590, rfl⟩
abbrev main_v538 : Ref sig .tc := ⟨.hbm, 591, rfl⟩
abbrev main_v539 : Ref sig .tc := ⟨.hbm, 592, rfl⟩
abbrev main_v540 : Ref sig .tc := ⟨.hbm, 593, rfl⟩
abbrev main_v541 : Ref sig .tc := ⟨.hbm, 594, rfl⟩
abbrev main_v542 : Ref sig .tc := ⟨.hbm, 595, rfl⟩
abbrev main_v543 : Ref sig .tc := ⟨.hbm, 596, rfl⟩
abbrev main_v544 : Ref sig .tc := ⟨.hbm, 597, rfl⟩
abbrev main_v545 : Ref sig .tc := ⟨.hbm, 598, rfl⟩
abbrev main_v546 : Ref sig .tc := ⟨.hbm, 599, rfl⟩
abbrev main_v547 : Ref sig .tc := ⟨.hbm, 600, rfl⟩
abbrev main_v548 : Ref sig .tc := ⟨.hbm, 601, rfl⟩
abbrev main_v549 : Ref sig .tc := ⟨.hbm, 602, rfl⟩
abbrev main_v550 : Ref sig .tc := ⟨.hbm, 603, rfl⟩
abbrev main_v551 : Ref sig .tc := ⟨.hbm, 604, rfl⟩
abbrev main_cst_39 : Ref sig .tc := ⟨.hbm, 605, rfl⟩
abbrev main_v552 : Ref sig .tc := ⟨.hbm, 606, rfl⟩
abbrev main_v553 : Ref sig .tc := ⟨.hbm, 607, rfl⟩
abbrev main_v554 : Ref sig .tc := ⟨.hbm, 608, rfl⟩
abbrev main_v555 : Ref sig .tc := ⟨.hbm, 609, rfl⟩
abbrev main_v556 : Ref sig .tc := ⟨.hbm, 610, rfl⟩
abbrev main_v557 : Ref sig .tc := ⟨.hbm, 611, rfl⟩
abbrev main_v558 : Ref sig .tc := ⟨.hbm, 612, rfl⟩
abbrev main_v559 : Ref sig .tc := ⟨.hbm, 613, rfl⟩
abbrev main_v560 : Ref sig .tc := ⟨.hbm, 614, rfl⟩
abbrev main_v561 : Ref sig .tc := ⟨.hbm, 615, rfl⟩
abbrev main_v562 : Ref sig .tc := ⟨.hbm, 616, rfl⟩
abbrev main_v563 : Ref sig .tc := ⟨.hbm, 617, rfl⟩
abbrev main_v564 : Ref sig .tc := ⟨.hbm, 618, rfl⟩
abbrev main_v565 : Ref sig .tc := ⟨.hbm, 619, rfl⟩
abbrev main_v566 : Ref sig .tc := ⟨.hbm, 620, rfl⟩
abbrev main_v567 : Ref sig .tc := ⟨.hbm, 621, rfl⟩
abbrev main_v568 : Ref sig .tc := ⟨.hbm, 622, rfl⟩
abbrev main_v569 : Ref sig .tc := ⟨.hbm, 623, rfl⟩
abbrev main_v570 : Ref sig .tc := ⟨.hbm, 624, rfl⟩
abbrev main_v571 : Ref sig .tc := ⟨.hbm, 625, rfl⟩
abbrev main_v572 : Ref sig .tc := ⟨.hbm, 626, rfl⟩
abbrev main_v573 : Ref sig .tc := ⟨.hbm, 627, rfl⟩
abbrev main_v574 : Ref sig .tc := ⟨.hbm, 628, rfl⟩
abbrev main_cst_40 : Ref sig .tc := ⟨.hbm, 629, rfl⟩
abbrev main_v575 : Ref sig .tc := ⟨.hbm, 630, rfl⟩
abbrev main_v576 : Ref sig .tc := ⟨.hbm, 631, rfl⟩
abbrev main_v577 : Ref sig .tc := ⟨.hbm, 632, rfl⟩
abbrev main_v578 : Ref sig .tc := ⟨.hbm, 633, rfl⟩
abbrev main_v579 : Ref sig .tc := ⟨.hbm, 634, rfl⟩
abbrev main_v580 : Ref sig .tc := ⟨.hbm, 635, rfl⟩
abbrev main_v581 : Ref sig .tc := ⟨.hbm, 636, rfl⟩
abbrev main_v582 : Ref sig .tc := ⟨.hbm, 637, rfl⟩
abbrev main_v583 : Ref sig .tc := ⟨.hbm, 638, rfl⟩
abbrev main_v584 : Ref sig .tc := ⟨.hbm, 639, rfl⟩
abbrev main_v585 : Ref sig .tc := ⟨.hbm, 640, rfl⟩
abbrev main_v586 : Ref sig .tc := ⟨.hbm, 641, rfl⟩
abbrev main_v587 : Ref sig .tc := ⟨.hbm, 642, rfl⟩
abbrev main_v588 : Ref sig .tc := ⟨.hbm, 643, rfl⟩
abbrev main_v589 : Ref sig .tc := ⟨.hbm, 644, rfl⟩
abbrev main_v590 : Ref sig .tc := ⟨.hbm, 645, rfl⟩
abbrev main_v591 : Ref sig .tc := ⟨.hbm, 646, rfl⟩
abbrev main_cst_41 : Ref sig .tc := ⟨.hbm, 647, rfl⟩
abbrev main_v592 : Ref sig .tc := ⟨.hbm, 648, rfl⟩
abbrev main_v593 : Ref sig .tc := ⟨.hbm, 649, rfl⟩
abbrev main_cst_42 : Ref sig .tc := ⟨.hbm, 650, rfl⟩
abbrev main_v594 : Ref sig .tc := ⟨.hbm, 651, rfl⟩
abbrev main_v595 : Ref sig .tc := ⟨.hbm, 652, rfl⟩
abbrev main_v596 : Ref sig .tc := ⟨.hbm, 653, rfl⟩
abbrev main_v597 : Ref sig .tc := ⟨.hbm, 654, rfl⟩
abbrev main_v598 : Ref sig .tc := ⟨.hbm, 655, rfl⟩
abbrev main_v599 : Ref sig .tc := ⟨.hbm, 656, rfl⟩
abbrev main_v600 : Ref sig .tc := ⟨.hbm, 657, rfl⟩
abbrev main_v601 : Ref sig .tc := ⟨.hbm, 658, rfl⟩
abbrev main_v602 : Ref sig .tc := ⟨.hbm, 659, rfl⟩
abbrev main_v603 : Ref sig .tc := ⟨.hbm, 660, rfl⟩
abbrev main_v604 : Ref sig .tc := ⟨.hbm, 661, rfl⟩
abbrev main_v605 : Ref sig .tc := ⟨.hbm, 662, rfl⟩
abbrev main_v606 : Ref sig .tc := ⟨.hbm, 663, rfl⟩
abbrev main_v607 : Ref sig .tc := ⟨.hbm, 664, rfl⟩
abbrev main_v608 : Ref sig .tc := ⟨.hbm, 665, rfl⟩
abbrev main_v609 : Ref sig .tc := ⟨.hbm, 666, rfl⟩
abbrev main_cst_43 : Ref sig .tc := ⟨.hbm, 667, rfl⟩
abbrev main_v610 : Ref sig .tc := ⟨.hbm, 668, rfl⟩
abbrev main_v611 : Ref sig .tc := ⟨.hbm, 669, rfl⟩
abbrev main_v612 : Ref sig .tc := ⟨.hbm, 670, rfl⟩
abbrev main_v613 : Ref sig .tc := ⟨.hbm, 671, rfl⟩
abbrev main_v614 : Ref sig .tc := ⟨.hbm, 672, rfl⟩
abbrev main_v615 : Ref sig .tc := ⟨.hbm, 673, rfl⟩
abbrev main_v616 : Ref sig .tc := ⟨.hbm, 674, rfl⟩
abbrev main_v617 : Ref sig .tc := ⟨.hbm, 675, rfl⟩
abbrev main_v618 : Ref sig .tc := ⟨.hbm, 676, rfl⟩
abbrev main_v619 : Ref sig .tc := ⟨.hbm, 677, rfl⟩
abbrev main_v620 : Ref sig .tc := ⟨.hbm, 678, rfl⟩
abbrev main_v621 : Ref sig .tc := ⟨.hbm, 679, rfl⟩
abbrev main_v622 : Ref sig .tc := ⟨.hbm, 680, rfl⟩
abbrev main_v623 : Ref sig .tc := ⟨.hbm, 681, rfl⟩
abbrev main_v624 : Ref sig .tc := ⟨.hbm, 682, rfl⟩
abbrev main_v625 : Ref sig .tc := ⟨.hbm, 683, rfl⟩
abbrev main_v626 : Ref sig .tc := ⟨.hbm, 684, rfl⟩
abbrev main_cst_44 : Ref sig .tc := ⟨.hbm, 685, rfl⟩
abbrev main_v627 : Ref sig .tc := ⟨.hbm, 686, rfl⟩
abbrev main_v628 : Ref sig .tc := ⟨.hbm, 687, rfl⟩
abbrev main_v629 : Ref sig .tc := ⟨.hbm, 688, rfl⟩
abbrev main_v630 : Ref sig .tc := ⟨.hbm, 689, rfl⟩
abbrev main_v631 : Ref sig .tc := ⟨.hbm, 690, rfl⟩
abbrev main_v632 : Ref sig .tc := ⟨.hbm, 691, rfl⟩
abbrev main_v633 : Ref sig .tc := ⟨.hbm, 692, rfl⟩
abbrev main_v634 : Ref sig .tc := ⟨.hbm, 693, rfl⟩
abbrev main_v635 : Ref sig .tc := ⟨.hbm, 694, rfl⟩
abbrev main_v636 : Ref sig .tc := ⟨.hbm, 695, rfl⟩
abbrev main_v637 : Ref sig .tc := ⟨.hbm, 696, rfl⟩
abbrev main_v638 : Ref sig .tc := ⟨.hbm, 697, rfl⟩
abbrev main_v639 : Ref sig .tc := ⟨.hbm, 698, rfl⟩
abbrev main_v640 : Ref sig .tc := ⟨.hbm, 699, rfl⟩
abbrev main_cst_45 : Ref sig .tc := ⟨.hbm, 700, rfl⟩
abbrev main_v641 : Ref sig .tc := ⟨.hbm, 701, rfl⟩
abbrev main_v642 : Ref sig .tc := ⟨.hbm, 702, rfl⟩
abbrev main_v643 : Ref sig .tc := ⟨.hbm, 703, rfl⟩
abbrev main_v644 : Ref sig .tc := ⟨.hbm, 704, rfl⟩
abbrev main_v645 : Ref sig .tc := ⟨.hbm, 705, rfl⟩
abbrev main_v646 : Ref sig .tc := ⟨.hbm, 706, rfl⟩
abbrev main_v647 : Ref sig .tc := ⟨.hbm, 707, rfl⟩
abbrev main_v648 : Ref sig .tc := ⟨.hbm, 708, rfl⟩
abbrev main_v649 : Ref sig .tc := ⟨.hbm, 709, rfl⟩
abbrev main_v650 : Ref sig .tc := ⟨.hbm, 710, rfl⟩
abbrev main_v651 : Ref sig .tc := ⟨.hbm, 711, rfl⟩
abbrev main_v652 : Ref sig .tc := ⟨.hbm, 712, rfl⟩
abbrev main_v653 : Ref sig .tc := ⟨.hbm, 713, rfl⟩
abbrev main_v654 : Ref sig .tc := ⟨.hbm, 714, rfl⟩
abbrev main_v655 : Ref sig .tc := ⟨.hbm, 715, rfl⟩
abbrev main_v656 : Ref sig .tc := ⟨.hbm, 716, rfl⟩
abbrev main_v657 : Ref sig .tc := ⟨.hbm, 717, rfl⟩
abbrev main_cst_46 : Ref sig .tc := ⟨.hbm, 718, rfl⟩
abbrev main_v658 : Ref sig .tc := ⟨.hbm, 719, rfl⟩
abbrev main_v659 : Ref sig .tc := ⟨.hbm, 720, rfl⟩
abbrev main_cst_47 : Ref sig .tc := ⟨.hbm, 721, rfl⟩
abbrev main_v660 : Ref sig .tc := ⟨.hbm, 722, rfl⟩
abbrev main_v661 : Ref sig .tc := ⟨.hbm, 723, rfl⟩
abbrev main_v662 : Ref sig .tc := ⟨.hbm, 724, rfl⟩
abbrev main_v663 : Ref sig .tc := ⟨.hbm, 725, rfl⟩
abbrev main_v664 : Ref sig .tc := ⟨.hbm, 726, rfl⟩
abbrev main_v665 : Ref sig .tc := ⟨.hbm, 727, rfl⟩
abbrev main_v666 : Ref sig .tc := ⟨.hbm, 728, rfl⟩
abbrev main_v667 : Ref sig .tc := ⟨.hbm, 729, rfl⟩
abbrev main_v668 : Ref sig .tc := ⟨.hbm, 730, rfl⟩
abbrev main_v669 : Ref sig .tc := ⟨.hbm, 731, rfl⟩
abbrev main_v670 : Ref sig .tc := ⟨.hbm, 732, rfl⟩
abbrev main_v671 : Ref sig .tc := ⟨.hbm, 733, rfl⟩
abbrev main_v672 : Ref sig .tc := ⟨.hbm, 734, rfl⟩
abbrev main_v673 : Ref sig .tc := ⟨.hbm, 735, rfl⟩
abbrev main_v674 : Ref sig .tc := ⟨.hbm, 736, rfl⟩
abbrev main_v675 : Ref sig .tc := ⟨.hbm, 737, rfl⟩
abbrev main_cst_48 : Ref sig .tc := ⟨.hbm, 738, rfl⟩
abbrev main_v676 : Ref sig .tc := ⟨.hbm, 739, rfl⟩
abbrev main_v677 : Ref sig .tc := ⟨.hbm, 740, rfl⟩
abbrev main_v678 : Ref sig .tc := ⟨.hbm, 741, rfl⟩
abbrev main_v679 : Ref sig .tc := ⟨.hbm, 742, rfl⟩
abbrev main_v680 : Ref sig .tc := ⟨.hbm, 743, rfl⟩
abbrev main_v681 : Ref sig .tc := ⟨.hbm, 744, rfl⟩
abbrev main_v682 : Ref sig .tc := ⟨.hbm, 745, rfl⟩
abbrev main_v683 : Ref sig .tc := ⟨.hbm, 746, rfl⟩
abbrev main_v684 : Ref sig .tc := ⟨.hbm, 747, rfl⟩
abbrev main_v685 : Ref sig .tc := ⟨.hbm, 748, rfl⟩
abbrev main_v686 : Ref sig .tc := ⟨.hbm, 749, rfl⟩
abbrev main_v687 : Ref sig .tc := ⟨.hbm, 750, rfl⟩
abbrev main_v688 : Ref sig .tc := ⟨.hbm, 751, rfl⟩
abbrev main_v689 : Ref sig .tc := ⟨.hbm, 752, rfl⟩
abbrev main_v690 : Ref sig .tc := ⟨.hbm, 753, rfl⟩
abbrev main_v691 : Ref sig .tc := ⟨.hbm, 754, rfl⟩
abbrev main_v692 : Ref sig .tc := ⟨.hbm, 755, rfl⟩
abbrev main_cst_49 : Ref sig .tc := ⟨.hbm, 756, rfl⟩
abbrev main_v693 : Ref sig .tc := ⟨.hbm, 757, rfl⟩
abbrev main_v694 : Ref sig .tc := ⟨.hbm, 758, rfl⟩
abbrev main_v695 : Ref sig .tc := ⟨.hbm, 759, rfl⟩
abbrev main_v696 : Ref sig .tc := ⟨.hbm, 760, rfl⟩
abbrev main_v697 : Ref sig .tc := ⟨.hbm, 761, rfl⟩
abbrev main_v698 : Ref sig .tc := ⟨.hbm, 762, rfl⟩
abbrev main_v699 : Ref sig .tc := ⟨.hbm, 763, rfl⟩
abbrev main_v700 : Ref sig .tc := ⟨.hbm, 764, rfl⟩
abbrev main_v701 : Ref sig .tc := ⟨.hbm, 765, rfl⟩
abbrev main_v702 : Ref sig .tc := ⟨.hbm, 766, rfl⟩
abbrev main_v703 : Ref sig .tc := ⟨.hbm, 767, rfl⟩
abbrev main_v704 : Ref sig .tc := ⟨.hbm, 768, rfl⟩
abbrev main_v705 : Ref sig .tc := ⟨.hbm, 769, rfl⟩
abbrev main_v706 : Ref sig .tc := ⟨.hbm, 770, rfl⟩
abbrev main_v707 : Ref sig .tc := ⟨.hbm, 771, rfl⟩
abbrev main_v708 : Ref sig .tc := ⟨.hbm, 772, rfl⟩
abbrev main_v709 : Ref sig .tc := ⟨.hbm, 773, rfl⟩
abbrev main_v710 : Ref sig .tc := ⟨.hbm, 774, rfl⟩
abbrev main_v711 : Ref sig .tc := ⟨.hbm, 775, rfl⟩
abbrev main_v712 : Ref sig .tc := ⟨.hbm, 776, rfl⟩
abbrev main_v713 : Ref sig .tc := ⟨.hbm, 777, rfl⟩
abbrev main_v714 : Ref sig .tc := ⟨.hbm, 778, rfl⟩
abbrev main_v715 : Ref sig .tc := ⟨.hbm, 779, rfl⟩
abbrev main_cst_50 : Ref sig .tc := ⟨.hbm, 780, rfl⟩
abbrev main_v716 : Ref sig .tc := ⟨.hbm, 781, rfl⟩
abbrev main_v717 : Ref sig .tc := ⟨.hbm, 782, rfl⟩
abbrev main_v718 : Ref sig .tc := ⟨.hbm, 783, rfl⟩
abbrev main_v719 : Ref sig .tc := ⟨.hbm, 784, rfl⟩
abbrev main_v720 : Ref sig .tc := ⟨.hbm, 785, rfl⟩
abbrev main_v721 : Ref sig .tc := ⟨.hbm, 786, rfl⟩
abbrev main_v722 : Ref sig .tc := ⟨.hbm, 787, rfl⟩
abbrev main_v723 : Ref sig .tc := ⟨.hbm, 788, rfl⟩
abbrev main_v724 : Ref sig .tc := ⟨.hbm, 789, rfl⟩
abbrev main_v725 : Ref sig .tc := ⟨.hbm, 790, rfl⟩
abbrev main_v726 : Ref sig .tc := ⟨.hbm, 791, rfl⟩
abbrev main_v727 : Ref sig .tc := ⟨.hbm, 792, rfl⟩
abbrev main_v728 : Ref sig .tc := ⟨.hbm, 793, rfl⟩
abbrev main_v729 : Ref sig .tc := ⟨.hbm, 794, rfl⟩
abbrev main_v730 : Ref sig .tc := ⟨.hbm, 795, rfl⟩
abbrev main_v731 : Ref sig .tc := ⟨.hbm, 796, rfl⟩
abbrev main_v732 : Ref sig .tc := ⟨.hbm, 797, rfl⟩
abbrev main_cst_51 : Ref sig .tc := ⟨.hbm, 798, rfl⟩
abbrev main_v733 : Ref sig .tc := ⟨.hbm, 799, rfl⟩
abbrev main_v734 : Ref sig .tc := ⟨.hbm, 800, rfl⟩
abbrev main_cst_52 : Ref sig .tc := ⟨.hbm, 801, rfl⟩
abbrev main_v735 : Ref sig .tc := ⟨.hbm, 802, rfl⟩
abbrev main_v736 : Ref sig .tc := ⟨.hbm, 803, rfl⟩
abbrev main_v737 : Ref sig .tc := ⟨.hbm, 804, rfl⟩
abbrev main_v738 : Ref sig .tc := ⟨.hbm, 805, rfl⟩
abbrev main_v739 : Ref sig .tc := ⟨.hbm, 806, rfl⟩
abbrev main_v740 : Ref sig .tc := ⟨.hbm, 807, rfl⟩
abbrev main_v741 : Ref sig .tc := ⟨.hbm, 808, rfl⟩
abbrev main_v742 : Ref sig .tc := ⟨.hbm, 809, rfl⟩
abbrev main_v743 : Ref sig .tc := ⟨.hbm, 810, rfl⟩
abbrev main_v744 : Ref sig .tc := ⟨.hbm, 811, rfl⟩
abbrev main_v745 : Ref sig .tc := ⟨.hbm, 812, rfl⟩
abbrev main_v746 : Ref sig .tc := ⟨.hbm, 813, rfl⟩
abbrev main_v747 : Ref sig .tc := ⟨.hbm, 814, rfl⟩
abbrev main_v748 : Ref sig .tc := ⟨.hbm, 815, rfl⟩
abbrev main_v749 : Ref sig .tc := ⟨.hbm, 816, rfl⟩
abbrev main_v750 : Ref sig .tc := ⟨.hbm, 817, rfl⟩
abbrev main_cst_53 : Ref sig .tc := ⟨.hbm, 818, rfl⟩
abbrev main_v751 : Ref sig .tc := ⟨.hbm, 819, rfl⟩
abbrev main_v752 : Ref sig .tc := ⟨.hbm, 820, rfl⟩
abbrev main_v753 : Ref sig .tc := ⟨.hbm, 821, rfl⟩
abbrev main_v754 : Ref sig .tc := ⟨.hbm, 822, rfl⟩
abbrev main_v755 : Ref sig .tc := ⟨.hbm, 823, rfl⟩
abbrev main_v756 : Ref sig .tc := ⟨.hbm, 824, rfl⟩
abbrev main_v757 : Ref sig .tc := ⟨.hbm, 825, rfl⟩
abbrev main_v758 : Ref sig .tc := ⟨.hbm, 826, rfl⟩
abbrev main_v759 : Ref sig .tc := ⟨.hbm, 827, rfl⟩
abbrev main_v760 : Ref sig .tc := ⟨.hbm, 828, rfl⟩
abbrev main_v761 : Ref sig .tc := ⟨.hbm, 829, rfl⟩
abbrev main_v762 : Ref sig .tc := ⟨.hbm, 830, rfl⟩
abbrev main_v763 : Ref sig .tc := ⟨.hbm, 831, rfl⟩
abbrev main_v764 : Ref sig .tc := ⟨.hbm, 832, rfl⟩
abbrev main_v765 : Ref sig .tc := ⟨.hbm, 833, rfl⟩
abbrev main_v766 : Ref sig .tc := ⟨.hbm, 834, rfl⟩
abbrev main_v767 : Ref sig .tc := ⟨.hbm, 835, rfl⟩
abbrev main_cst_54 : Ref sig .tc := ⟨.hbm, 836, rfl⟩
abbrev main_v768 : Ref sig .tc := ⟨.hbm, 837, rfl⟩
abbrev main_v769 : Ref sig .tc := ⟨.hbm, 838, rfl⟩
abbrev main_v770 : Ref sig .tc := ⟨.hbm, 839, rfl⟩
abbrev main_v771 : Ref sig .tc := ⟨.hbm, 840, rfl⟩
abbrev main_v772 : Ref sig .tc := ⟨.hbm, 841, rfl⟩
abbrev main_v773 : Ref sig .tc := ⟨.hbm, 842, rfl⟩
abbrev main_v774 : Ref sig .tc := ⟨.hbm, 843, rfl⟩
abbrev main_v775 : Ref sig .tc := ⟨.hbm, 844, rfl⟩
abbrev main_v776 : Ref sig .tc := ⟨.hbm, 845, rfl⟩
abbrev main_v777 : Ref sig .tc := ⟨.hbm, 846, rfl⟩
abbrev main_v778 : Ref sig .tc := ⟨.hbm, 847, rfl⟩
abbrev main_v779 : Ref sig .tc := ⟨.hbm, 848, rfl⟩
abbrev main_v780 : Ref sig .tc := ⟨.hbm, 849, rfl⟩
abbrev main_v781 : Ref sig .tc := ⟨.hbm, 850, rfl⟩
abbrev main_cst_55 : Ref sig .tc := ⟨.hbm, 851, rfl⟩
abbrev main_v782 : Ref sig .tc := ⟨.hbm, 852, rfl⟩
abbrev main_v783 : Ref sig .tc := ⟨.hbm, 853, rfl⟩
abbrev main_v784 : Ref sig .tc := ⟨.hbm, 854, rfl⟩
abbrev main_v785 : Ref sig .tc := ⟨.hbm, 855, rfl⟩
abbrev main_v786 : Ref sig .tc := ⟨.hbm, 856, rfl⟩
abbrev main_v787 : Ref sig .tc := ⟨.hbm, 857, rfl⟩
abbrev main_v788 : Ref sig .tc := ⟨.hbm, 858, rfl⟩
abbrev main_v789 : Ref sig .tc := ⟨.hbm, 859, rfl⟩
abbrev main_v790 : Ref sig .tc := ⟨.hbm, 860, rfl⟩
abbrev main_v791 : Ref sig .tc := ⟨.hbm, 861, rfl⟩
abbrev main_v792 : Ref sig .tc := ⟨.hbm, 862, rfl⟩
abbrev main_v793 : Ref sig .tc := ⟨.hbm, 863, rfl⟩
abbrev main_v794 : Ref sig .tc := ⟨.hbm, 864, rfl⟩
abbrev main_v795 : Ref sig .tc := ⟨.hbm, 865, rfl⟩
abbrev main_v796 : Ref sig .tc := ⟨.hbm, 866, rfl⟩
abbrev main_v797 : Ref sig .tc := ⟨.hbm, 867, rfl⟩
abbrev main_v798 : Ref sig .tc := ⟨.hbm, 868, rfl⟩
abbrev main_cst_56 : Ref sig .tc := ⟨.hbm, 869, rfl⟩
abbrev main_v799 : Ref sig .tc := ⟨.hbm, 870, rfl⟩
abbrev main_v800 : Ref sig .tc := ⟨.hbm, 871, rfl⟩
abbrev main_cst_57 : Ref sig .tc := ⟨.hbm, 872, rfl⟩
abbrev main_v801 : Ref sig .tc := ⟨.hbm, 873, rfl⟩
abbrev main_v802 : Ref sig .tc := ⟨.hbm, 874, rfl⟩
abbrev main_v803 : Ref sig .tc := ⟨.hbm, 875, rfl⟩
abbrev main_v804 : Ref sig .tc := ⟨.hbm, 876, rfl⟩
abbrev main_v805 : Ref sig .tc := ⟨.hbm, 877, rfl⟩
abbrev main_v806 : Ref sig .tc := ⟨.hbm, 878, rfl⟩
abbrev main_v807 : Ref sig .tc := ⟨.hbm, 879, rfl⟩
abbrev main_v808 : Ref sig .tc := ⟨.hbm, 880, rfl⟩
abbrev main_v809 : Ref sig .tc := ⟨.hbm, 881, rfl⟩
abbrev main_v810 : Ref sig .tc := ⟨.hbm, 882, rfl⟩
abbrev main_v811 : Ref sig .tc := ⟨.hbm, 883, rfl⟩
abbrev main_v812 : Ref sig .tc := ⟨.hbm, 884, rfl⟩
abbrev main_v813 : Ref sig .tc := ⟨.hbm, 885, rfl⟩
abbrev main_v814 : Ref sig .tc := ⟨.hbm, 886, rfl⟩
abbrev main_v815 : Ref sig .tc := ⟨.hbm, 887, rfl⟩
abbrev main_v816 : Ref sig .tc := ⟨.hbm, 888, rfl⟩
abbrev main_cst_58 : Ref sig .tc := ⟨.hbm, 889, rfl⟩
abbrev main_v817 : Ref sig .tc := ⟨.hbm, 890, rfl⟩
abbrev main_v818 : Ref sig .tc := ⟨.hbm, 891, rfl⟩
abbrev main_v819 : Ref sig .tc := ⟨.hbm, 892, rfl⟩
abbrev main_v820 : Ref sig .tc := ⟨.hbm, 893, rfl⟩
abbrev main_v821 : Ref sig .tc := ⟨.hbm, 894, rfl⟩
abbrev main_v822 : Ref sig .tc := ⟨.hbm, 895, rfl⟩
abbrev main_v823 : Ref sig .tc := ⟨.hbm, 896, rfl⟩
abbrev main_v824 : Ref sig .tc := ⟨.hbm, 897, rfl⟩
abbrev main_v825 : Ref sig .tc := ⟨.hbm, 898, rfl⟩
abbrev main_v826 : Ref sig .tc := ⟨.hbm, 899, rfl⟩
abbrev main_v827 : Ref sig .tc := ⟨.hbm, 900, rfl⟩
abbrev main_v828 : Ref sig .tc := ⟨.hbm, 901, rfl⟩
abbrev main_v829 : Ref sig .tc := ⟨.hbm, 902, rfl⟩
abbrev main_v830 : Ref sig .tc := ⟨.hbm, 903, rfl⟩
abbrev main_v831 : Ref sig .tc := ⟨.hbm, 904, rfl⟩
abbrev main_v832 : Ref sig .tc := ⟨.hbm, 905, rfl⟩
abbrev main_v833 : Ref sig .tc := ⟨.hbm, 906, rfl⟩
abbrev main_cst_59 : Ref sig .tc := ⟨.hbm, 907, rfl⟩
abbrev main_v834 : Ref sig .tc := ⟨.hbm, 908, rfl⟩
abbrev main_v835 : Ref sig .tc := ⟨.hbm, 909, rfl⟩
abbrev main_v836 : Ref sig .tc := ⟨.hbm, 910, rfl⟩
abbrev main_v837 : Ref sig .tc := ⟨.hbm, 911, rfl⟩
abbrev main_v838 : Ref sig .tc := ⟨.hbm, 912, rfl⟩
abbrev main_v839 : Ref sig .tc := ⟨.hbm, 913, rfl⟩
abbrev main_v840 : Ref sig .tc := ⟨.hbm, 914, rfl⟩
abbrev main_v841 : Ref sig .tc := ⟨.hbm, 915, rfl⟩
abbrev main_v842 : Ref sig .tc := ⟨.hbm, 916, rfl⟩
abbrev main_v843 : Ref sig .tc := ⟨.hbm, 917, rfl⟩
abbrev main_v844 : Ref sig .tc := ⟨.hbm, 918, rfl⟩
abbrev main_v845 : Ref sig .tc := ⟨.hbm, 919, rfl⟩
abbrev main_v846 : Ref sig .tc := ⟨.hbm, 920, rfl⟩
abbrev main_v847 : Ref sig .tc := ⟨.hbm, 921, rfl⟩
abbrev main_v848 : Ref sig .tc := ⟨.hbm, 922, rfl⟩
abbrev main_v849 : Ref sig .tc := ⟨.hbm, 923, rfl⟩
abbrev main_v850 : Ref sig .tc := ⟨.hbm, 924, rfl⟩
abbrev main_v851 : Ref sig .tc := ⟨.hbm, 925, rfl⟩
abbrev main_v852 : Ref sig .tc := ⟨.hbm, 926, rfl⟩
abbrev main_v853 : Ref sig .tc := ⟨.hbm, 927, rfl⟩
abbrev main_v854 : Ref sig .tc := ⟨.hbm, 928, rfl⟩

abbrev nD : Nat := 1
abbrev τ : Topo := Topo.v7x

variable {F : FTy → Type} [FloatOps F]
-- ==== Proof.Model.lean ====
/- The decoder as plain mathematics over the extended reals: one diffusion convolution, one gated cell, one time
   step, on functions of a feature and a node. Both programs are compared with it, index by index. -/
module

public import Idealize.ShloMosaic.Lib.Pointwise
public import Idealize.ShloMosaic.Lib.ValueIdx

@[expose] public section

set_option maxRecDepth 16384

noncomputable section

namespace Cert.Model

open Idealize.ShloMosaic

/-- One diffusion: the node values `x` advanced along the graph `S`. -/
def adv (S : Fin 512 → Fin 512 → EReal) (x : Fin 512 → EReal) : Fin 512 → EReal := fun n => ∑ k, S n k * x k

/-- The three Chebyshev terms of a signal: itself, advanced once, and twice the second advance less itself. -/
def term (S : Fin 512 → Fin 512 → EReal) (x : Fin 512 → EReal) (k : Fin 3) : Fin 512 → EReal :=
  if (k : ℕ) = 0 then x else if (k : ℕ) = 1 then adv S x
  else fun n => Ideal.ofBits .f32 0x40000000#32 * adv S (adv S x) n - x n

/-- The Chebyshev term 0 is the signal itself. -/
theorem term_0 (S : Fin 512 → Fin 512 → EReal) (x : Fin 512 → EReal) : term S x 0 = x := rfl
/-- The Chebyshev term 1 is the signal advanced once. -/
theorem term_1 (S : Fin 512 → Fin 512 → EReal) (x : Fin 512 → EReal) : term S x 1 = adv S x := rfl
/-- The Chebyshev term 2 is twice the signal advanced twice, less the signal. -/
theorem term_2 (S : Fin 512 → Fin 512 → EReal) (x : Fin 512 → EReal) :
    term S x 2 = fun n => Ideal.ofBits .f32 0x40000000#32 * adv S (adv S x) n - x n := rfl

/-- The diffusion convolution's value for one output feature at node `n`: the weights `w` (rows ordered
    "input features, then hidden features", three rows each, one per Chebyshev term), the bias `b`. -/
def conv {d o : ℕ} (S : Fin 512 → Fin 512 → EReal) (w : Fin ((d + 64) * 3) → Fin o → EReal) (b : Fin o → EReal)
    (x : Fin d → Fin 512 → EReal) (h : Fin 64 → Fin 512 → EReal) (j : Fin o) (n : Fin 512) : EReal :=
  (∑ k : Fin 3, ((∑ i : Fin d, term S (x i) k n * w ⟨i * 3 + k, by omega⟩ j)
    + ∑ i : Fin 64, term S (h i) k n * w ⟨(d + i) * 3 + k, by omega⟩ j)) + b j

/-- The weights of one cell. -/
structure Wts (d : ℕ) where
  wg : Fin ((d + 64) * 3) → Fin 128 → EReal
  bg : Fin 128 → EReal
  wc : Fin ((d + 64) * 3) → Fin 64 → EReal
  bc : Fin 64 → EReal

/-- The gates (reset in the first 64 rows, update in the last 64). -/
def gate {d : ℕ} (S : Fin 512 → Fin 512 → EReal) (W : Wts d) (x : Fin d → Fin 512 → EReal)
    (h : Fin 64 → Fin 512 → EReal) (j : Fin 128) (n : Fin 512) : EReal :=
  Ideal.logistic (conv S W.wg W.bg x h j n)

/-- The candidate state. -/
def cand {d : ℕ} (S : Fin 512 → Fin 512 → EReal) (W : Wts d) (x : Fin d → Fin 512 → EReal)
    (h : Fin 64 → Fin 512 → EReal) (j : Fin 64) (n : Fin 512) : EReal :=
  Ideal.tanh (conv S W.wc W.bc x (fun i n => gate S W x h ⟨i, by omega⟩ n * h i n) j n)

/-- The new hidden state of one cell. -/
def cell {d : ℕ} (S : Fin 512 → Fin 512 → EReal) (W : Wts d) (x : Fin d → Fin 512 → EReal)
    (h : Fin 64 → Fin 512 → EReal) (j : Fin 64) (n : Fin 512) : EReal :=
  gate S W x h ⟨64 + j, by omega⟩ n * h j n + (1 - gate S W x h ⟨64 + j, by omega⟩ n) * cand S W x h j n

/-- The projection of the second layer's state to the one output feature. -/
def proj (w : Fin 64 → EReal) (b : EReal) (h : Fin 64 → Fin 512 → EReal) (n : Fin 512) : EReal :=
  (∑ i, h i n * w i) + b

/-- Everything that stays fixed over the time steps: the graph, both cells' weights, the projection's. -/
structure Par where
  S : Fin 512 → Fin 512 → EReal
  W1 : Wts 1
  W2 : Wts 64
  wp : Fin 64 → EReal
  bp : EReal

/-- The state carried between time steps, of one batch: the current input signal and the two hidden states. -/
structure St where
  cur : Fin 512 → EReal
  h0 : Fin 64 → Fin 512 → EReal
  h1 : Fin 64 → Fin 512 → EReal

/-- One time step. -/
def step (P : Par) (s : St) : St :=
  let g0 := cell P.S P.W1 (fun _ => s.cur) s.h0
  let g1 := cell P.S P.W2 g0 s.h1
  ⟨proj P.wp P.bp g1, g0, g1⟩

/-- The state after `k` time steps. -/
def run (P : Par) (s : St) (k : ℕ) : St := (step P)^[k] s

/-- One more time step is a step from where the others end. -/
theorem run_succ (P : Par) (s : St) (k : ℕ) : run P s (k + 1) = step P (run P s k) :=
  Function.iterate_succ_apply' _ _ _

/-- A convolution as one sum over the reference's row order (input features, then hidden features, three terms each). -/
theorem conv_of_rows {d o N : ℕ} (hN : (d + 64) * 3 = N) (S : Fin 512 → Fin 512 → EReal)
    (w : Fin ((d + 64) * 3) → Fin o → EReal)
    (b : Fin o → EReal) (x : Fin d → Fin 512 → EReal) (h : Fin 64 → Fin 512 → EReal) (j : Fin o) (n : Fin 512)
    (T U : Fin N → EReal)
    (hx : ∀ (i : Fin d) (k : Fin 3), T ⟨i * 3 + k, by omega⟩ = term S (x i) k n)
    (hh : ∀ (i : Fin 64) (k : Fin 3), T ⟨(d + i) * 3 + k, by omega⟩ = term S (h i) k n)
    (hu : ∀ r : Fin ((d + 64) * 3), U ⟨r, by omega⟩ = w r j) :
    (∑ c, T c * U c) + b j = conv S w b x h j n := by
  subst hN
  unfold conv
  congr 1
  rw [Fin.sum_univ_tiles (d + 64) 3 rfl (fun c => T c * U c), Finset.sum_comm]
  refine Finset.sum_congr rfl fun k _ => ?_
  rw [Fin.sum_univ_add]
  refine congrArg₂ (· + ·) (Finset.sum_congr rfl fun i _ => ?_) (Finset.sum_congr rfl fun i _ => ?_)
  · rw [← hx i k, ← hu]; rfl
  · rw [← hh i k, ← hu]; rfl

/-- A convolution as one sum over the kernel's row order (per term: hidden features, input features, then rows of
    zero weight, whose signal does not matter). -/
theorem conv_of_tiles {d e o : ℕ} (S : Fin 512 → Fin 512 → EReal) (w : Fin ((d + 64) * 3) → Fin o → EReal)
    (b : Fin o → EReal) (x : Fin d → Fin 512 → EReal) (h : Fin 64 → Fin 512 → EReal) (j : Fin o) (n : Fin 512)
    (T U : Fin (3 * (64 + (d + e))) → EReal)
    (hh : ∀ (i : Fin 64) (k : Fin 3), T ⟨k * (64 + (d + e)) + i, by have := k.2; have := Nat.mul_le_mul_right (64 + (d + e)) (show (k : ℕ) ≤ 2 by omega); omega⟩ = term S (h i) k n)
    (hx : ∀ (i : Fin d) (k : Fin 3), T ⟨k * (64 + (d + e)) + (64 + i), by have := Nat.mul_le_mul_right (64 + (d + e)) (show (k : ℕ) ≤ 2 by omega); omega⟩ = term S (x i) k n)
    (uh : ∀ (i : Fin 64) (k : Fin 3), U ⟨k * (64 + (d + e)) + i, by have := Nat.mul_le_mul_right (64 + (d + e)) (show (k : ℕ) ≤ 2 by omega); omega⟩ = w ⟨(d + i) * 3 + k, by omega⟩ j)
    (ux : ∀ (i : Fin d) (k : Fin 3), U ⟨k * (64 + (d + e)) + (64 + i), by have := Nat.mul_le_mul_right (64 + (d + e)) (show (k : ℕ) ≤ 2 by omega); omega⟩ = w ⟨i * 3 + k, by omega⟩ j)
    (u0 : ∀ (i : Fin e) (k : Fin 3), U ⟨k * (64 + (d + e)) + (64 + (d + i)), by have := Nat.mul_le_mul_right (64 + (d + e)) (show (k : ℕ) ≤ 2 by omega); omega⟩ = 0) :
    (∑ c, U c * T c) + b j = conv S w b x h j n := by
  unfold conv
  congr 1
  rw [Fin.sum_univ_tiles 3 (64 + (d + e)) rfl (fun c => U c * T c)]
  refine Finset.sum_congr rfl fun k _ => ?_
  rw [Fin.sum_univ_add, Fin.sum_univ_add, add_comm]
  refine congrArg₂ (· + ·) ?_ (Finset.sum_congr rfl fun i _ => ?_)
  · rw [show (∑ i : Fin e, U ⟨k * (64 + (d + e)) + (Fin.natAdd 64 (Fin.natAdd d i)), _⟩ * T ⟨k * (64 + (d + e)) + (Fin.natAdd 64 (Fin.natAdd d i)), _⟩) = 0 from
      Finset.sum_eq_zero fun i _ => (congrArg (· * _) (u0 i k)).trans (zero_mul _), add_zero]
    refine Finset.sum_congr rfl fun i _ => ?_
    rw [← hx i k, ← ux i k, mul_comm]; rfl
  · rw [← hh i k, ← uh i k, mul_comm]; rfl

/-- The first cell's weights, out of the argument arrays. -/
def wts1 (wg : FVec Ideal ⟨2, ![195, 128]⟩ .f32) (bg : FVec Ideal ⟨1, ![128]⟩ .f32)
    (wc : FVec Ideal ⟨2, ![195, 64]⟩ .f32) (bc : FVec Ideal ⟨1, ![64]⟩ .f32) : Wts 1 :=
  ⟨fun r j => wg (ix2 ⟨r.1, r.2⟩ j), fun j => bg (ix1 j), fun r j => wc (ix2 ⟨r.1, r.2⟩ j), fun j => bc (ix1 j)⟩

/-- The second cell's weights, out of the argument arrays. -/
def wts2 (wg : FVec Ideal ⟨2, ![384, 128]⟩ .f32) (bg : FVec Ideal ⟨1, ![128]⟩ .f32)
    (wc : FVec Ideal ⟨2, ![384, 64]⟩ .f32) (bc : FVec Ideal ⟨1, ![64]⟩ .f32) : Wts 64 :=
  ⟨fun r j => wg (ix2 ⟨r.1, r.2⟩ j), fun j => bg (ix1 j), fun r j => wc (ix2 ⟨r.1, r.2⟩ j), fun j => bc (ix1 j)⟩

/-- The graph, out of the argument array. -/
def graph (s : FVec Ideal ⟨3, ![1, 512, 512]⟩ .f32) : Fin 512 → Fin 512 → EReal := fun n k => s (ix3 0 n k)

/-- All fixed parameters, out of the argument arrays. -/
def par (s : FVec Ideal ⟨3, ![1, 512, 512]⟩ .f32)
    (w1g : FVec Ideal ⟨2, ![195, 128]⟩ .f32) (b1g : FVec Ideal ⟨1, ![128]⟩ .f32)
    (w1c : FVec Ideal ⟨2, ![195, 64]⟩ .f32) (b1c : FVec Ideal ⟨1, ![64]⟩ .f32)
    (w2g : FVec Ideal ⟨2, ![384, 128]⟩ .f32) (b2g : FVec Ideal ⟨1, ![128]⟩ .f32)
    (w2c : FVec Ideal ⟨2, ![384, 64]⟩ .f32) (b2c : FVec Ideal ⟨1, ![64]⟩ .f32)
    (wp : FVec Ideal ⟨2, ![64, 1]⟩ .f32) (bp : FVec Ideal ⟨1, ![1]⟩ .f32) : Par :=
  ⟨graph s, wts1 w1g b1g w1c b1c, wts2 w2g b2g w2c b2c, fun i => wp (ix2 i 0), bp (ix1 0)⟩

/-- The state before the first step, of batch `b`: no input signal, the given hidden states. -/
def init (h : FVec Ideal ⟨3, ![2, 8, 32768]⟩ .f32) (b : Fin 8) : St :=
  ⟨fun _ => 0, fun i n => h (ix3 0 b ⟨n * 64 + i, by omega⟩), fun i n => h (ix3 1 b ⟨n * 64 + i, by omega⟩)⟩

end Cert.Model

end
-- ==== Proof.KerDefs.lean ====
/- The kernel's cells as functions of whole arrays, and the loads that read its two work buffers back. -/
module

public import proofs.«01_k».proof.Proof.Model
public import proofs.«01_k».proof.Proof.Gen.KernelIdeal.Skeleton
public import Idealize.ShloMosaic.Lib.Pipeline.ReadBack
public import Idealize.ShloMosaic.Lib.Pipeline.RowLoads

@[expose] public section

set_option maxRecDepth 16384

noncomputable section

namespace Cert.KernelIdeal.Vec

open Cert.KernelIdeal Cert.KernelIdeal.Gen Idealize.ShloMosaic Idealize.ShloMosaic.TcCoe Idealize.SL.Sem

section Loads

variable {m n : ℕ} {Val : EltTy → Type} [∀ e, Nonempty (Val e)] {sig : RefSig} {κ : Kind} {sp : Space} {e : EltTy}

/-- Columns that lie within an array lie within some of its rows, too. -/
theorem cols_slices {k k' o p : ℕ} (inb' : ∀ a, (![o, p] : Fin 2 → ℕ) a + (⟨2, ![k, k']⟩ : Shape).size a ≤ (⟨2, ![m, n]⟩ : Shape).size a) :
    (⟨2, ![k, n]⟩ : Shape).Slices ![0, p] ⟨2, ![k, k']⟩ :=
  ⟨rfl, fun a => by
    have h := inb' a
    fin_cases a <;> simp at h ⊢
    exact h⟩

/-- A load of some columns of the rows stored last reads those columns of what was stored. -/
theorem readCov_cols {k k' : ℕ} (v : View sig κ sp (⟨2, ![m, n]⟩ : Shape) e) (o p : ℕ) (x : (⟨2, ![k, n]⟩ : Shape).Idx → Val e)
    (L : List (View.Piece Val (⟨2, ![m, n]⟩ : Shape) e))
    (inb : ∀ a, (![o, 0] : Fin 2 → ℕ) a + (⟨2, ![k, n]⟩ : Shape).size a ≤ (⟨2, ![m, n]⟩ : Shape).size a)
    (inb' : ∀ a, (![o, p] : Fin 2 → ℕ) a + (⟨2, ![k, k']⟩ : Shape).size a ≤ (⟨2, ![m, n]⟩ : Shape).size a) :
    v.readCov ((⟨Rect.unit (s := (⟨2, ![m, n]⟩ : Shape)) ![o, 0] (⟨2, ![k, n]⟩ : Shape).size inb, x⟩ : View.Piece Val (⟨2, ![m, n]⟩ : Shape) e) :: L)
        (Rect.unit (s := (⟨2, ![m, n]⟩ : Shape)) ![o, p] (⟨2, ![k, k']⟩ : Shape).size inb').toLoadRect
      = extractStridedSlice (⟨2, ![k, k']⟩ : Shape) ![0, p] x (cols_slices inb') := by
  rw [View.readCov_eq_canon']
  funext j
  have hp : p + k' ≤ n := inb' 1
  have h1 : (j 1).val < k' := (j 1).isLt
  have e : (Rect.unit (s := (⟨2, ![m, n]⟩ : Shape)) ![o, p] (⟨2, ![k, k']⟩ : Shape).size inb').toLoadRect.idx j
      = (Rect.unit (s := (⟨2, ![m, n]⟩ : Shape)) ![o, 0] (⟨2, ![k, n]⟩ : Shape).size inb).emb (ix2 (j 0) ⟨p + j 1, by omega⟩) := by
    funext a; apply Fin.ext
    fin_cases a
    · show o + 1 * (j 0).val = o + 1 * (j 0).val; rfl
    · show p + 1 * (j 1).val = 0 + 1 * (p + (j 1).val); omega
  show View.canon _ _ = _
  rw [e, View.canon_cons_emb]
  symm
  exact extractStridedSlice_apply ![0, p] x _ j (ix2 (j 0) ⟨p + j 1, by omega⟩) (by intro a; fin_cases a <;> simp [ix2])

/-- Three blocks of `k` rows, one above the other. -/
def rows3 {α : Type} {k K : ℕ} (hK : K = k + k + k) (a b c : (⟨2, ![k, n]⟩ : Shape).Idx → α) : (⟨2, ![K, n]⟩ : Shape).Idx → α := fun j =>
  if h : (j 0).val < k then a (ix2 ⟨(j 0).val, h⟩ (j 1 : Fin n))
  else if h' : (j 0).val < k + k then b (ix2 ⟨(j 0).val - k, by omega⟩ (j 1 : Fin n))
  else c (ix2 ⟨(j 0).val - (k + k), by have h2 : (j 0).val < K := (j 0).isLt; omega⟩ (j 1 : Fin n))

/-- A load over three blocks of rows stored last reads the three blocks, one above the other. -/
theorem readCov_rows3 {k K : ℕ} (v : View sig κ sp (⟨2, ![m, n]⟩ : Shape) e) (o1 o2 : ℕ) (a b c : (⟨2, ![k, n]⟩ : Shape).Idx → Val e)
    (L : List (View.Piece Val (⟨2, ![m, n]⟩ : Shape) e))
    (inb0 : ∀ a, (![0, 0] : Fin 2 → ℕ) a + (⟨2, ![k, n]⟩ : Shape).size a ≤ (⟨2, ![m, n]⟩ : Shape).size a)
    (inb1 : ∀ a, (![o1, 0] : Fin 2 → ℕ) a + (⟨2, ![k, n]⟩ : Shape).size a ≤ (⟨2, ![m, n]⟩ : Shape).size a)
    (inb2 : ∀ a, (![o2, 0] : Fin 2 → ℕ) a + (⟨2, ![k, n]⟩ : Shape).size a ≤ (⟨2, ![m, n]⟩ : Shape).size a)
    (inb' : ∀ a, (![0, 0] : Fin 2 → ℕ) a + (⟨2, ![K, n]⟩ : Shape).size a ≤ (⟨2, ![m, n]⟩ : Shape).size a)
    (h1 : o1 = k) (h2 : o2 = k + k) (hK : K = k + k + k) :
    v.readCov ((⟨Rect.unit (s := (⟨2, ![m, n]⟩ : Shape)) ![o2, 0] (⟨2, ![k, n]⟩ : Shape).size inb2, c⟩ : View.Piece Val (⟨2, ![m, n]⟩ : Shape) e)
        :: (⟨Rect.unit (s := (⟨2, ![m, n]⟩ : Shape)) ![o1, 0] (⟨2, ![k, n]⟩ : Shape).size inb1, b⟩ : View.Piece Val (⟨2, ![m, n]⟩ : Shape) e)
        :: (⟨Rect.unit (s := (⟨2, ![m, n]⟩ : Shape)) ![0, 0] (⟨2, ![k, n]⟩ : Shape).size inb0, a⟩ : View.Piece Val (⟨2, ![m, n]⟩ : Shape) e) :: L)
        (Rect.unit (s := (⟨2, ![m, n]⟩ : Shape)) ![0, 0] (⟨2, ![K, n]⟩ : Shape).size inb').toLoadRect
      = rows3 hK a b c := by
  have skip (o : ℕ) (inb : ∀ a, (![o, 0] : Fin 2 → ℕ) a + (⟨2, ![k, n]⟩ : Shape).size a ≤ (⟨2, ![m, n]⟩ : Shape).size a) (x : (⟨2, ![k, n]⟩ : Shape).Idx → Val e)
      (L : List (View.Piece Val (⟨2, ![m, n]⟩ : Shape) e)) (y : (⟨2, ![m, n]⟩ : Shape).Idx) (h : (y 0).val < o) :
      View.canon ((⟨Rect.unit (s := (⟨2, ![m, n]⟩ : Shape)) ![o, 0] (⟨2, ![k, n]⟩ : Shape).size inb, x⟩ : View.Piece Val (⟨2, ![m, n]⟩ : Shape) e) :: L) y
        = View.canon L y :=
    View.canon_cons_of_not_mem _ L fun hm => by
      obtain ⟨z, rfl⟩ := (Rect.unit (s := (⟨2, ![m, n]⟩ : Shape)) ![o, 0] (⟨2, ![k, n]⟩ : Shape).size inb).exists_idx_of_mem hm
      have h : o + 1 * (z 0).val < o := h
      omega
  have here (o : ℕ) (inb : ∀ a, (![o, 0] : Fin 2 → ℕ) a + (⟨2, ![k, n]⟩ : Shape).size a ≤ (⟨2, ![m, n]⟩ : Shape).size a) (x : (⟨2, ![k, n]⟩ : Shape).Idx → Val e)
      (L : List (View.Piece Val (⟨2, ![m, n]⟩ : Shape) e)) (y : (⟨2, ![m, n]⟩ : Shape).Idx) (h : o ≤ (y 0).val) (h' : (y 0).val - o < k) :
      View.canon ((⟨Rect.unit (s := (⟨2, ![m, n]⟩ : Shape)) ![o, 0] (⟨2, ![k, n]⟩ : Shape).size inb, x⟩ : View.Piece Val (⟨2, ![m, n]⟩ : Shape) e) :: L) y
        = x (ix2 ⟨(y 0).val - o, h'⟩ (y 1)) := by
    have e : y = (Rect.unit (s := (⟨2, ![m, n]⟩ : Shape)) ![o, 0] (⟨2, ![k, n]⟩ : Shape).size inb).emb (ix2 ⟨(y 0).val - o, h'⟩ (y 1)) := by
      funext a; apply Fin.ext
      fin_cases a
      · show (y 0).val = o + 1 * ((y 0).val - o); omega
      · show (y 1).val = 0 + 1 * (y 1).val; omega
    exact (congrArg (View.canon _) e).trans (View.canon_cons_emb
      (Rect.unit (s := (⟨2, ![m, n]⟩ : Shape)) ![o, 0] (⟨2, ![k, n]⟩ : Shape).size inb) x L (ix2 ⟨(y 0).val - o, h'⟩ (y 1)))
  rw [View.readCov_eq_canon']
  funext j
  have hj : (j 0).val < K := (j 0).isLt
  have e0 : ((Rect.unit (s := (⟨2, ![m, n]⟩ : Shape)) ![0, 0] (⟨2, ![K, n]⟩ : Shape).size inb').toLoadRect.idx j 0).val = (j 0).val := by
    show 0 + 1 * (j 0).val = (j 0).val; omega
  have e1 : (Rect.unit (s := (⟨2, ![m, n]⟩ : Shape)) ![0, 0] (⟨2, ![K, n]⟩ : Shape).size inb').toLoadRect.idx j 1 = (j 1 : Fin n) :=
    Fin.ext (by show 0 + 1 * (j 1).val = (j 1).val; omega)
  show View.canon _ _ = _
  unfold rows3
  generalize (Rect.unit (s := (⟨2, ![m, n]⟩ : Shape)) ![0, 0] (⟨2, ![K, n]⟩ : Shape).size inb').toLoadRect.idx j = y at e0 e1
  rw [← e1]
  split_ifs with c1 c2
  · rw [skip _ _ _ _ y (by omega), skip _ _ _ _ y (by omega), here _ _ _ _ y (by omega) (by omega)]
    simp only [e0, Nat.sub_zero]
  · rw [skip _ _ _ _ y (by omega), here _ _ _ _ y (by omega) (by omega)]
    simp only [e0, h1]
  · rw [here _ _ _ _ y (by omega) (by omega)]
    simp only [e0, h2]

end Loads

/-- A reshape of an f32 array to its own shape changes nothing. -/
theorem shapeCast_f32 {s : Shape} (v : Vec Ideal s .f32) (h : s.ShapeCasts s) : (shapeCast s v h : FVec Ideal s .f32) = v := shapeCast_self _ _

/-- A reshape of a bf16 array to its own shape changes nothing. -/
theorem shapeCast_bf16 {s : Shape} (v : Vec Ideal s .bf16) (h : s.ShapeCasts s) : (shapeCast s v h : FVec Ideal s .bf16) = v := shapeCast_self _ _

/-- The first hidden state's whole scratch array, read, is its contents. -/
theorem read_scratch0 (h : (Memref.whole cc0_scratch0).IsWhole) (X : Vec Ideal S64x4096 .f32) :
    View.read (Elt Ideal) (View.whole cc0_scratch0) (h.unread X) = X := read_unread_whole _ _ _

/-- The second hidden state's whole scratch array, read, is its contents. -/
theorem read_scratch1 (h : (Memref.whole cc0_scratch1).IsWhole) (X : Vec Ideal S64x4096 .f32) :
    View.read (Elt Ideal) (View.whole cc0_scratch1) (h.unread X) = X := read_unread_whole _ _ _

/-- The signal's whole scratch array, read, is its contents. -/
theorem read_scratch2 (h : (Memref.whole cc0_scratch2).IsWhole) (X : Vec Ideal S8x4096 .f32) :
    View.read (Elt Ideal) (View.whole cc0_scratch2) (h.unread X) = X := read_unread_whole _ _ _

/-- A load of 512 columns of the 72 rows stored last reads those columns of what was stored. -/
theorem cols72 {sp : Space} (v : View sig .tc sp S384x4096 .bf16) (o p : ℕ) (a : Vec Ideal S72x4096 .bf16) (L) (inb inb') :
    v.readCov (Val := Elt Ideal) (⟨Rect.unit (s := S384x4096) ![o, 0] ![72, 4096] inb, a⟩ :: L) (Rect.unit (s := S384x4096) ![o, p] ![72, 512] inb').toLoadRect
      = extractStridedSlice (α := Ideal .bf16) S72x512 ![0, p] a (cols_slices (m := 384) (n := 4096) (o := o) inb') :=
  readCov_cols (m := 384) (n := 4096) (k := 72) (k' := 512) _ o p a L inb inb'

/-- Three stripes of 72 rows, written one after the other and read together, are the three stacked. -/
theorem load72 {sp : Space} (v : View sig .tc sp S384x4096 .bf16) (a b c : Vec Ideal S72x4096 .bf16) (L) (inb0 inb1 inb2 inb') :
    v.readCov (Val := Elt Ideal) (⟨Rect.unit (s := S384x4096) ![144, 0] ![72, 4096] inb2, c⟩ :: ⟨Rect.unit (s := S384x4096) ![72, 0] ![72, 4096] inb1, b⟩ ::
        ⟨Rect.unit (s := S384x4096) ![0, 0] ![72, 4096] inb0, a⟩ :: L) (Rect.unit (s := S384x4096) ![0, 0] ![216, 4096] inb').toLoadRect
      = rows3 (α := Ideal .bf16) (by decide : 216 = 72 + 72 + 72) a b c :=
  readCov_rows3 (m := 384) (n := 4096) (k := 72) (K := 216) _ 72 144 a b c L inb0 inb1 inb2 inb' rfl rfl rfl

/-- A load of 512 columns of the 128 rows stored last reads those columns of what was stored. -/
theorem cols128 {sp : Space} (v : View sig .tc sp S384x4096 .bf16) (o p : ℕ) (a : Vec Ideal S128x4096 .bf16) (L) (inb inb') :
    v.readCov (Val := Elt Ideal) (⟨Rect.unit (s := S384x4096) ![o, 0] ![128, 4096] inb, a⟩ :: L) (Rect.unit (s := S384x4096) ![o, p] ![128, 512] inb').toLoadRect
      = extractStridedSlice (α := Ideal .bf16) S128x512 ![0, p] a (cols_slices (m := 384) (n := 4096) (o := o) inb') :=
  readCov_cols (m := 384) (n := 4096) (k := 128) (k' := 512) _ o p a L inb inb'

/-- Three stripes of 128 rows, written one after the other and read together, are the three stacked. -/
theorem load128 {sp : Space} (v : View sig .tc sp S384x4096 .bf16) (a b c : Vec Ideal S128x4096 .bf16) (L) (inb0 inb1 inb2 inb') :
    v.readCov (Val := Elt Ideal) (⟨Rect.unit (s := S384x4096) ![256, 0] ![128, 4096] inb2, c⟩ :: ⟨Rect.unit (s := S384x4096) ![128, 0] ![128, 4096] inb1, b⟩ ::
        ⟨Rect.unit (s := S384x4096) ![0, 0] ![128, 4096] inb0, a⟩ :: L) (Rect.unit (s := S384x4096) ![0, 0] ![384, 4096] inb').toLoadRect
      = rows3 (α := Ideal .bf16) (by decide : 384 = 128 + 128 + 128) a b c :=
  readCov_rows3 (m := 384) (n := 4096) (k := 128) (K := 384) _ 128 256 a b c L inb0 inb1 inb2 inb' rfl rfl rfl

/-- Eight blocks of 72 rows and 512 columns, side by side. -/
def beside72 (a0 a1 a2 a3 a4 a5 a6 a7 : FVec Ideal S72x512 .f32) : FVec Ideal S72x4096 .f32 :=
  concatenate S72x4096 1 [⟨S72x512, a0⟩, ⟨S72x512, a1⟩, ⟨S72x512, a2⟩, ⟨S72x512, a3⟩, ⟨S72x512, a4⟩, ⟨S72x512, a5⟩, ⟨S72x512, a6⟩, ⟨S72x512, a7⟩] concatenates_S72x512_S72x512_S72x512_S72x512_S72x512_S72x512_S72x512_S72x512_S72x4096_d1

/-- Eight batches side by side, of 72 rows each, as the program writes them. -/
theorem beside72_eq (a0 a1 a2 a3 a4 a5 a6 a7 : FVec Ideal S72x512 .f32) :
    (concatenate S72x4096 1 [⟨S72x512, a0⟩, ⟨S72x512, a1⟩, ⟨S72x512, a2⟩, ⟨S72x512, a3⟩, ⟨S72x512, a4⟩, ⟨S72x512, a5⟩, ⟨S72x512, a6⟩, ⟨S72x512, a7⟩] concatenates_S72x512_S72x512_S72x512_S72x512_S72x512_S72x512_S72x512_S72x512_S72x4096_d1 : FVec Ideal S72x4096 .f32) = beside72 a0 a1 a2 a3 a4 a5 a6 a7 := rfl

/-- The support applied to 72 rows, batch by batch. -/
def app72 (s : FVec Ideal S512x512 .bf16) (a : FVec Ideal S72x4096 .bf16) : FVec Ideal S72x4096 .f32 :=
  beside72 (matmul dot_S72x512_S512x512_S72x512_1_0_0_1_n_n none (extractStridedSlice S72x512 ![0, 0] a (by decide)) s (constant S72x512 .f32 0x00000000#32)) (matmul dot_S72x512_S512x512_S72x512_1_0_0_1_n_n none (extractStridedSlice S72x512 ![0, 512] a (by decide)) s (constant S72x512 .f32 0x00000000#32)) (matmul dot_S72x512_S512x512_S72x512_1_0_0_1_n_n none (extractStridedSlice S72x512 ![0, 1024] a (by decide)) s (constant S72x512 .f32 0x00000000#32)) (matmul dot_S72x512_S512x512_S72x512_1_0_0_1_n_n none (extractStridedSlice S72x512 ![0, 1536] a (by decide)) s (constant S72x512 .f32 0x00000000#32)) (matmul dot_S72x512_S512x512_S72x512_1_0_0_1_n_n none (extractStridedSlice S72x512 ![0, 2048] a (by decide)) s (constant S72x512 .f32 0x00000000#32)) (matmul dot_S72x512_S512x512_S72x512_1_0_0_1_n_n none (extractStridedSlice S72x512 ![0, 2560] a (by decide)) s (constant S72x512 .f32 0x00000000#32)) (matmul dot_S72x512_S512x512_S72x512_1_0_0_1_n_n none (extractStridedSlice S72x512 ![0, 3072] a (by decide)) s (constant S72x512 .f32 0x00000000#32)) (matmul dot_S72x512_S512x512_S72x512_1_0_0_1_n_n none (extractStridedSlice S72x512 ![0, 3584] a (by decide)) s (constant S72x512 .f32 0x00000000#32))

/-- The product with the support matrix, batch by batch, of 72 rows, as the program writes it. -/
theorem app72_eq (s : FVec Ideal S512x512 .bf16) (a : FVec Ideal S72x4096 .bf16) :
    (beside72 (matmul dot_S72x512_S512x512_S72x512_1_0_0_1_n_n none (extractStridedSlice S72x512 ![0, 0] a (by decide)) s (constant S72x512 .f32 0x00000000#32)) (matmul dot_S72x512_S512x512_S72x512_1_0_0_1_n_n none (extractStridedSlice S72x512 ![0, 512] a (by decide)) s (constant S72x512 .f32 0x00000000#32)) (matmul dot_S72x512_S512x512_S72x512_1_0_0_1_n_n none (extractStridedSlice S72x512 ![0, 1024] a (by decide)) s (constant S72x512 .f32 0x00000000#32)) (matmul dot_S72x512_S512x512_S72x512_1_0_0_1_n_n none (extractStridedSlice S72x512 ![0, 1536] a (by decide)) s (constant S72x512 .f32 0x00000000#32)) (matmul dot_S72x512_S512x512_S72x512_1_0_0_1_n_n none (extractStridedSlice S72x512 ![0, 2048] a (by decide)) s (constant S72x512 .f32 0x00000000#32)) (matmul dot_S72x512_S512x512_S72x512_1_0_0_1_n_n none (extractStridedSlice S72x512 ![0, 2560] a (by decide)) s (constant S72x512 .f32 0x00000000#32)) (matmul dot_S72x512_S512x512_S72x512_1_0_0_1_n_n none (extractStridedSlice S72x512 ![0, 3072] a (by decide)) s (constant S72x512 .f32 0x00000000#32)) (matmul dot_S72x512_S512x512_S72x512_1_0_0_1_n_n none (extractStridedSlice S72x512 ![0, 3584] a (by decide)) s (constant S72x512 .f32 0x00000000#32)) : FVec Ideal S72x4096 .f32) = app72 s a := rfl

/-- The first layer's features: the hidden state above the input. -/
def cat72 (h : FVec Ideal S64x4096 .f32) (cur : FVec Ideal S8x4096 .f32) : FVec Ideal S72x4096 .f32 :=
  concatenate S72x4096 0 [⟨S64x4096, h⟩, ⟨S8x4096, cur⟩] concatenates_S64x4096_S8x4096_S72x4096_d0

/-- The first cell's features, as the program writes them. -/
theorem cat72_eq (h : FVec Ideal S64x4096 .f32) (cur : FVec Ideal S8x4096 .f32) :
    (concatenate S72x4096 0 [⟨S64x4096, h⟩, ⟨S8x4096, cur⟩] concatenates_S64x4096_S8x4096_S72x4096_d0 : FVec Ideal S72x4096 .f32) = cat72 h cur := rfl

/-- The three terms of the graph convolution over 72 features. -/
def stack72 (s : FVec Ideal S512x512 .bf16) (y : FVec Ideal S72x4096 .f32) : FVec Ideal S216x4096 .bf16 :=
  rows3 (by decide) (truncf .bf16 y bitsLt_bf16_f32) (truncf .bf16 (app72 s (truncf .bf16 y bitsLt_bf16_f32)) bitsLt_bf16_f32) (truncf .bf16 (subf (mulf (broadcast S72x4096 (FloatOps.ofBits (F := Ideal) .f32 0x40000000#32) : FVec Ideal S72x4096 .f32) (app72 s (truncf .bf16 (app72 s (truncf .bf16 y bitsLt_bf16_f32)) bitsLt_bf16_f32))) y) bitsLt_bf16_f32)

/-- The first cell's three Chebyshev terms, as the program writes them. -/
theorem stack72_eq (s : FVec Ideal S512x512 .bf16) (y : FVec Ideal S72x4096 .f32) :
    (rows3 (by decide) (truncf .bf16 y bitsLt_bf16_f32) (truncf .bf16 (app72 s (truncf .bf16 y bitsLt_bf16_f32)) bitsLt_bf16_f32) (truncf .bf16 (subf (mulf (broadcast S72x4096 (FloatOps.ofBits (F := Ideal) .f32 0x40000000#32) : FVec Ideal S72x4096 .f32) (app72 s (truncf .bf16 (app72 s (truncf .bf16 y bitsLt_bf16_f32)) bitsLt_bf16_f32))) y) bitsLt_bf16_f32) : FVec Ideal S216x4096 .bf16) = stack72 s y := rfl

/-- The first layer's gates. -/
def gate72 (s : FVec Ideal S512x512 .bf16) (wg : FVec Ideal S128x216 .bf16) (bg : FVec Ideal S128x1 .f32) (y : FVec Ideal S72x4096 .f32) : FVec Ideal S128x4096 .f32 :=
  logistic (addf (matmul dot_S128x216_S216x4096_S128x4096_1_0_0_1_n_n none wg (stack72 s y) (constant S128x4096 .f32 0x00000000#32)) (broadcastTo S128x4096 bg broadcasts_S128x1_S128x4096))

/-- The first cell's gates, as the program writes them. -/
theorem gate72_eq (s : FVec Ideal S512x512 .bf16) (wg : FVec Ideal S128x216 .bf16) (bg : FVec Ideal S128x1 .f32) (y : FVec Ideal S72x4096 .f32) :
    (logistic (addf (matmul dot_S128x216_S216x4096_S128x4096_1_0_0_1_n_n none wg (stack72 s y) (constant S128x4096 .f32 0x00000000#32)) (broadcastTo S128x4096 bg broadcasts_S128x1_S128x4096)) : FVec Ideal S128x4096 .f32) = gate72 s wg bg y := rfl

/-- The first layer's candidate. -/
def cand72 (s : FVec Ideal S512x512 .bf16) (wc : FVec Ideal S64x216 .bf16) (bc : FVec Ideal S64x1 .f32) (z : FVec Ideal S72x4096 .f32) : FVec Ideal S64x4096 .f32 :=
  tanh (addf (matmul dot_S64x216_S216x4096_S64x4096_1_0_0_1_n_n none wc (stack72 s z) (constant S64x4096 .f32 0x00000000#32)) (broadcastTo S64x4096 bc broadcasts_S64x1_S64x4096))

/-- The first cell's candidate, as the program writes it. -/
theorem cand72_eq (s : FVec Ideal S512x512 .bf16) (wc : FVec Ideal S64x216 .bf16) (bc : FVec Ideal S64x1 .f32) (z : FVec Ideal S72x4096 .f32) :
    (tanh (addf (matmul dot_S64x216_S216x4096_S64x4096_1_0_0_1_n_n none wc (stack72 s z) (constant S64x4096 .f32 0x00000000#32)) (broadcastTo S64x4096 bc broadcasts_S64x1_S64x4096)) : FVec Ideal S64x4096 .f32) = cand72 s wc bc z := rfl

/-- The first layer's new hidden state. -/
def cell72 (s : FVec Ideal S512x512 .bf16) (wg : FVec Ideal S128x216 .bf16) (bg : FVec Ideal S128x1 .f32) (wc : FVec Ideal S64x216 .bf16) (bc : FVec Ideal S64x1 .f32) (cur : FVec Ideal S8x4096 .f32) (h : FVec Ideal S64x4096 .f32) : FVec Ideal S64x4096 .f32 :=
  addf (mulf (extractStridedSlice S64x4096 ![64, 0] (gate72 s wg bg (cat72 h cur)) slices_S128x4096_o64_0_S64x4096) h) (mulf (subf (broadcast S64x4096 (FloatOps.ofBits (F := Ideal) .f32 0x3F800000#32) : FVec Ideal S64x4096 .f32) (extractStridedSlice S64x4096 ![64, 0] (gate72 s wg bg (cat72 h cur)) slices_S128x4096_o64_0_S64x4096)) (cand72 s wc bc (cat72 (mulf (extractStridedSlice S64x4096 ![0, 0] (gate72 s wg bg (cat72 h cur)) slices_S128x4096_o0_0_S64x4096) h) cur)))

/-- The first cell, as the program writes it. -/
theorem cell72_eq (s : FVec Ideal S512x512 .bf16) (wg : FVec Ideal S128x216 .bf16) (bg : FVec Ideal S128x1 .f32) (wc : FVec Ideal S64x216 .bf16) (bc : FVec Ideal S64x1 .f32) (cur : FVec Ideal S8x4096 .f32) (h : FVec Ideal S64x4096 .f32) :
    (addf (mulf (extractStridedSlice S64x4096 ![64, 0] (gate72 s wg bg (cat72 h cur)) slices_S128x4096_o64_0_S64x4096) h) (mulf (subf (broadcast S64x4096 (FloatOps.ofBits (F := Ideal) .f32 0x3F800000#32) : FVec Ideal S64x4096 .f32) (extractStridedSlice S64x4096 ![64, 0] (gate72 s wg bg (cat72 h cur)) slices_S128x4096_o64_0_S64x4096)) (cand72 s wc bc (cat72 (mulf (extractStridedSlice S64x4096 ![0, 0] (gate72 s wg bg (cat72 h cur)) slices_S128x4096_o0_0_S64x4096) h) cur))) : FVec Ideal S64x4096 .f32) = cell72 s wg bg wc bc cur h := rfl

/-- Eight blocks of 128 rows and 512 columns, side by side. -/
def beside128 (a0 a1 a2 a3 a4 a5 a6 a7 : FVec Ideal S128x512 .f32) : FVec Ideal S128x4096 .f32 :=
  concatenate S128x4096 1 [⟨S128x512, a0⟩, ⟨S128x512, a1⟩, ⟨S128x512, a2⟩, ⟨S128x512, a3⟩, ⟨S128x512, a4⟩, ⟨S128x512, a5⟩, ⟨S128x512, a6⟩, ⟨S128x512, a7⟩] concatenates_S128x512_S128x512_S128x512_S128x512_S128x512_S128x512_S128x512_S128x512_S128x4096_d1

/-- Eight batches side by side, of 128 rows each, as the program writes them. -/
theorem beside128_eq (a0 a1 a2 a3 a4 a5 a6 a7 : FVec Ideal S128x512 .f32) :
    (concatenate S128x4096 1 [⟨S128x512, a0⟩, ⟨S128x512, a1⟩, ⟨S128x512, a2⟩, ⟨S128x512, a3⟩, ⟨S128x512, a4⟩, ⟨S128x512, a5⟩, ⟨S128x512, a6⟩, ⟨S128x512, a7⟩] concatenates_S128x512_S128x512_S128x512_S128x512_S128x512_S128x512_S128x512_S128x512_S128x4096_d1 : FVec Ideal S128x4096 .f32) = beside128 a0 a1 a2 a3 a4 a5 a6 a7 := rfl

/-- The support applied to 128 rows, batch by batch. -/
def app128 (s : FVec Ideal S512x512 .bf16) (a : FVec Ideal S128x4096 .bf16) : FVec Ideal S128x4096 .f32 :=
  beside128 (matmul dot_S128x512_S512x512_S128x512_1_0_0_1_n_n none (extractStridedSlice S128x512 ![0, 0] a (by decide)) s (constant S128x512 .f32 0x00000000#32)) (matmul dot_S128x512_S512x512_S128x512_1_0_0_1_n_n none (extractStridedSlice S128x512 ![0, 512] a (by decide)) s (constant S128x512 .f32 0x00000000#32)) (matmul dot_S128x512_S512x512_S128x512_1_0_0_1_n_n none (extractStridedSlice S128x512 ![0, 1024] a (by decide)) s (constant S128x512 .f32 0x00000000#32)) (matmul dot_S128x512_S512x512_S128x512_1_0_0_1_n_n none (extractStridedSlice S128x512 ![0, 1536] a (by decide)) s (constant S128x512 .f32 0x00000000#32)) (matmul dot_S128x512_S512x512_S128x512_1_0_0_1_n_n none (extractStridedSlice S128x512 ![0, 2048] a (by decide)) s (constant S128x512 .f32 0x00000000#32)) (matmul dot_S128x512_S512x512_S128x512_1_0_0_1_n_n none (extractStridedSlice S128x512 ![0, 2560] a (by decide)) s (constant S128x512 .f32 0x00000000#32)) (matmul dot_S128x512_S512x512_S128x512_1_0_0_1_n_n none (extractStridedSlice S128x512 ![0, 3072] a (by decide)) s (constant S128x512 .f32 0x00000000#32)) (matmul dot_S128x512_S512x512_S128x512_1_0_0_1_n_n none (extractStridedSlice S128x512 ![0, 3584] a (by decide)) s (constant S128x512 .f32 0x00000000#32))

/-- The product with the support matrix, batch by batch, of 128 rows, as the program writes it. -/
theorem app128_eq (s : FVec Ideal S512x512 .bf16) (a : FVec Ideal S128x4096 .bf16) :
    (beside128 (matmul dot_S128x512_S512x512_S128x512_1_0_0_1_n_n none (extractStridedSlice S128x512 ![0, 0] a (by decide)) s (constant S128x512 .f32 0x00000000#32)) (matmul dot_S128x512_S512x512_S128x512_1_0_0_1_n_n none (extractStridedSlice S128x512 ![0, 512] a (by decide)) s (constant S128x512 .f32 0x00000000#32)) (matmul dot_S128x512_S512x512_S128x512_1_0_0_1_n_n none (extractStridedSlice S128x512 ![0, 1024] a (by decide)) s (constant S128x512 .f32 0x00000000#32)) (matmul dot_S128x512_S512x512_S128x512_1_0_0_1_n_n none (extractStridedSlice S128x512 ![0, 1536] a (by decide)) s (constant S128x512 .f32 0x00000000#32)) (matmul dot_S128x512_S512x512_S128x512_1_0_0_1_n_n none (extractStridedSlice S128x512 ![0, 2048] a (by decide)) s (constant S128x512 .f32 0x00000000#32)) (matmul dot_S128x512_S512x512_S128x512_1_0_0_1_n_n none (extractStridedSlice S128x512 ![0, 2560] a (by decide)) s (constant S128x512 .f32 0x00000000#32)) (matmul dot_S128x512_S512x512_S128x512_1_0_0_1_n_n none (extractStridedSlice S128x512 ![0, 3072] a (by decide)) s (constant S128x512 .f32 0x00000000#32)) (matmul dot_S128x512_S512x512_S128x512_1_0_0_1_n_n none (extractStridedSlice S128x512 ![0, 3584] a (by decide)) s (constant S128x512 .f32 0x00000000#32)) : FVec Ideal S128x4096 .f32) = app128 s a := rfl

/-- The second layer's features: the hidden state above the input. -/
def cat128 (h : FVec Ideal S64x4096 .f32) (cur : FVec Ideal S64x4096 .f32) : FVec Ideal S128x4096 .f32 :=
  concatenate S128x4096 0 [⟨S64x4096, h⟩, ⟨S64x4096, cur⟩] concatenates_S64x4096_S64x4096_S128x4096_d0

/-- The second cell's features, as the program writes them. -/
theorem cat128_eq (h : FVec Ideal S64x4096 .f32) (cur : FVec Ideal S64x4096 .f32) :
    (concatenate S128x4096 0 [⟨S64x4096, h⟩, ⟨S64x4096, cur⟩] concatenates_S64x4096_S64x4096_S128x4096_d0 : FVec Ideal S128x4096 .f32) = cat128 h cur := rfl

/-- The three terms of the graph convolution over 128 features. -/
def stack128 (s : FVec Ideal S512x512 .bf16) (y : FVec Ideal S128x4096 .f32) : FVec Ideal S384x4096 .bf16 :=
  rows3 (by decide) (truncf .bf16 y bitsLt_bf16_f32) (truncf .bf16 (app128 s (truncf .bf16 y bitsLt_bf16_f32)) bitsLt_bf16_f32) (truncf .bf16 (subf (mulf (broadcast S128x4096 (FloatOps.ofBits (F := Ideal) .f32 0x40000000#32) : FVec Ideal S128x4096 .f32) (app128 s (truncf .bf16 (app128 s (truncf .bf16 y bitsLt_bf16_f32)) bitsLt_bf16_f32))) y) bitsLt_bf16_f32)

/-- The second cell's three Chebyshev terms, as the program writes them. -/
theorem stack128_eq (s : FVec Ideal S512x512 .bf16) (y : FVec Ideal S128x4096 .f32) :
    (rows3 (by decide) (truncf .bf16 y bitsLt_bf16_f32) (truncf .bf16 (app128 s (truncf .bf16 y bitsLt_bf16_f32)) bitsLt_bf16_f32) (truncf .bf16 (subf (mulf (broadcast S128x4096 (FloatOps.ofBits (F := Ideal) .f32 0x40000000#32) : FVec Ideal S128x4096 .f32) (app128 s (truncf .bf16 (app128 s (truncf .bf16 y bitsLt_bf16_f32)) bitsLt_bf16_f32))) y) bitsLt_bf16_f32) : FVec Ideal S384x4096 .bf16) = stack128 s y := rfl

/-- The second layer's gates. -/
def gate128 (s : FVec Ideal S512x512 .bf16) (wg : FVec Ideal S128x384 .bf16) (bg : FVec Ideal S128x1 .f32) (y : FVec Ideal S128x4096 .f32) : FVec Ideal S128x4096 .f32 :=
  logistic (addf (matmul dot_S128x384_S384x4096_S128x4096_1_0_0_1_n_n none wg (stack128 s y) (constant S128x4096 .f32 0x00000000#32)) (broadcastTo S128x4096 bg broadcasts_S128x1_S128x4096))

/-- The second cell's gates, as the program writes them. -/
theorem gate128_eq (s : FVec Ideal S512x512 .bf16) (wg : FVec Ideal S128x384 .bf16) (bg : FVec Ideal S128x1 .f32) (y : FVec Ideal S128x4096 .f32) :
    (logistic (addf (matmul dot_S128x384_S384x4096_S128x4096_1_0_0_1_n_n none wg (stack128 s y) (constant S128x4096 .f32 0x00000000#32)) (broadcastTo S128x4096 bg broadcasts_S128x1_S128x4096)) : FVec Ideal S128x4096 .f32) = gate128 s wg bg y := rfl

/-- The second layer's candidate. -/
def cand128 (s : FVec Ideal S512x512 .bf16) (wc : FVec Ideal S64x384 .bf16) (bc : FVec Ideal S64x1 .f32) (z : FVec Ideal S128x4096 .f32) : FVec Ideal S64x4096 .f32 :=
  tanh (addf (matmul dot_S64x384_S384x4096_S64x4096_1_0_0_1_n_n none wc (stack128 s z) (constant S64x4096 .f32 0x00000000#32)) (broadcastTo S64x4096 bc broadcasts_S64x1_S64x4096))

/-- The second cell's candidate, as the program writes it. -/
theorem cand128_eq (s : FVec Ideal S512x512 .bf16) (wc : FVec Ideal S64x384 .bf16) (bc : FVec Ideal S64x1 .f32) (z : FVec Ideal S128x4096 .f32) :
    (tanh (addf (matmul dot_S64x384_S384x4096_S64x4096_1_0_0_1_n_n none wc (stack128 s z) (constant S64x4096 .f32 0x00000000#32)) (broadcastTo S64x4096 bc broadcasts_S64x1_S64x4096)) : FVec Ideal S64x4096 .f32) = cand128 s wc bc z := rfl

/-- The second layer's new hidden state. -/
def cell128 (s : FVec Ideal S512x512 .bf16) (wg : FVec Ideal S128x384 .bf16) (bg : FVec Ideal S128x1 .f32) (wc : FVec Ideal S64x384 .bf16) (bc : FVec Ideal S64x1 .f32) (cur : FVec Ideal S64x4096 .f32) (h : FVec Ideal S64x4096 .f32) : FVec Ideal S64x4096 .f32 :=
  addf (mulf (extractStridedSlice S64x4096 ![64, 0] (gate128 s wg bg (cat128 h cur)) slices_S128x4096_o64_0_S64x4096) h) (mulf (subf (broadcast S64x4096 (FloatOps.ofBits (F := Ideal) .f32 0x3F800000#32) : FVec Ideal S64x4096 .f32) (extractStridedSlice S64x4096 ![64, 0] (gate128 s wg bg (cat128 h cur)) slices_S128x4096_o64_0_S64x4096)) (cand128 s wc bc (cat128 (mulf (extractStridedSlice S64x4096 ![0, 0] (gate128 s wg bg (cat128 h cur)) slices_S128x4096_o0_0_S64x4096) h) cur)))

/-- The second cell, as the program writes it. -/
theorem cell128_eq (s : FVec Ideal S512x512 .bf16) (wg : FVec Ideal S128x384 .bf16) (bg : FVec Ideal S128x1 .f32) (wc : FVec Ideal S64x384 .bf16) (bc : FVec Ideal S64x1 .f32) (cur : FVec Ideal S64x4096 .f32) (h : FVec Ideal S64x4096 .f32) :
    (addf (mulf (extractStridedSlice S64x4096 ![64, 0] (gate128 s wg bg (cat128 h cur)) slices_S128x4096_o64_0_S64x4096) h) (mulf (subf (broadcast S64x4096 (FloatOps.ofBits (F := Ideal) .f32 0x3F800000#32) : FVec Ideal S64x4096 .f32) (extractStridedSlice S64x4096 ![64, 0] (gate128 s wg bg (cat128 h cur)) slices_S128x4096_o64_0_S64x4096)) (cand128 s wc bc (cat128 (mulf (extractStridedSlice S64x4096 ![0, 0] (gate128 s wg bg (cat128 h cur)) slices_S128x4096_o0_0_S64x4096) h) cur))) : FVec Ideal S64x4096 .f32) = cell128 s wg bg wc bc cur h := rfl

/-- The projected signal. -/
def projK (w : FVec Ideal S1x64 .f32) (b : FVec Ideal S1x1 .f32) (h : FVec Ideal S64x4096 .f32) : FVec Ideal S1x4096 .f32 :=
  addf (matmul dot_S1x64_S64x4096_S1x4096_1_0_0_1_n_n none w h (constant S1x4096 .f32 0x00000000#32)) (broadcastTo S1x4096 b broadcasts_S1x1_S1x4096)

/-- The projection, as the program writes it. -/
theorem projK_eq (w : FVec Ideal S1x64 .f32) (b : FVec Ideal S1x1 .f32) (h : FVec Ideal S64x4096 .f32) :
    (addf (matmul dot_S1x64_S64x4096_S1x4096_1_0_0_1_n_n none w h (constant S1x4096 .f32 0x00000000#32)) (broadcastTo S1x4096 b broadcasts_S1x1_S1x4096) : FVec Ideal S1x4096 .f32) = projK w b h := rfl

end Cert.KernelIdeal.Vec

end
-- ==== Proof.KerCell.lean ====
/- The kernel's cells read at a feature, a batch and a node: they hold the plain model's cells. -/
module

public import proofs.«01_k».proof.Proof.KerDefs

@[expose] public section

set_option maxRecDepth 16384

noncomputable section

namespace Cert.KernelIdeal.Vec

open Cert.KernelIdeal Cert.KernelIdeal.Gen Idealize.ShloMosaic Idealize.ShloMosaic.TcCoe Idealize.SL.Sem
open Cert.Model

/-- The column of batch `b` and node `n`. -/
abbrev col (b : Fin 8) (n : Fin 512) : Fin 4096 := ⟨b * 512 + n, by omega⟩

/-- A feature-major array's values for batch `b`: per feature and node. -/
def rd {f : ℕ} {φ : FTy} (x : FVec Ideal ⟨2, ![f, 4096]⟩ φ) (b : Fin 8) (i : Fin f) (n : Fin 512) : EReal := x (ix2 i (col b n))

/-- The kernel's arrangement `U` (one row per output feature) of the weights `w`: for each Chebyshev term `F` columns, the hidden
    features', then the input features', then zeros. -/
structure Tiled (d F o N : ℕ) (U : Fin o → Fin N → EReal) (w : Fin ((d + 64) * 3) → Fin o → EReal) : Prop where
  hid : ∀ (j : Fin o) (i : Fin 64) (k : Fin 3) (c : Fin N), (c : ℕ) = k * F + i → U j c = w ⟨(d + i) * 3 + k, by omega⟩ j
  inp : ∀ (j : Fin o) (i : Fin d) (k : Fin 3) (c : Fin N), (c : ℕ) = k * F + (64 + i) → U j c = w ⟨i * 3 + k, by omega⟩ j
  pad : ∀ (j : Fin o) (i : ℕ) (k : Fin 3) (c : Fin N), 64 + d ≤ i → i < F → (c : ℕ) = k * F + i → U j c = 0

/-- The product of a row of arranged weights with the stacked terms of all signals is the convolution. -/
theorem conv_tiled {d e o F N : ℕ} (hF : F = 64 + (d + e)) (hN : N = 3 * F) (G : Fin 512 → Fin 512 → EReal)
    (w : Fin ((d + 64) * 3) → Fin o → EReal) (b : Fin o → EReal) (x : Fin d → Fin 512 → EReal) (h : Fin 64 → Fin 512 → EReal)
    (j : Fin o) (n : Fin 512) (y : Fin F → Fin 512 → EReal) (T : Fin N → EReal) (U : Fin o → Fin N → EReal) (hU : Tiled d F o N U w)
    (hT : ∀ (i : Fin F) (k : Fin 3) (c : Fin N), (c : ℕ) = k * F + i → T c = term G (y i) k n)
    (hh : ∀ i : Fin 64, y ⟨i, by omega⟩ = h i) (hx : ∀ i : Fin d, y ⟨64 + i, by omega⟩ = x i) :
    (∑ c, U j c * T c) + b j = conv G w b x h j n := by
  subst hF hN
  refine conv_of_tiles (e := e) G w b x h j n T (U j) (fun i k => ?_) (fun i k => ?_) (fun i k => ?_) (fun i k => ?_) (fun i k => ?_)
  · rw [← hh i]; exact hT ⟨i, by omega⟩ k _ rfl
  · rw [← hx i]; exact hT ⟨64 + i, by omega⟩ k _ rfl
  · exact hU.hid j i k _ rfl
  · exact hU.inp j i k _ rfl
  · exact hU.pad j (64 + (d + i)) k _ (by omega) (by omega) rfl

/-- Three blocks of `F` rows, read at a row of one of them. -/
theorem rows3_at {α : Type} {n F K : ℕ} (hK : K = F + F + F) (a b c : (⟨2, ![F, n]⟩ : Shape).Idx → α) (k : Fin 3) (i : Fin F) (r : Fin K)
    (hr : (r : ℕ) = k * F + i) (q : Fin n) :
    rows3 hK a b c (ix2 r q) = if (k : ℕ) = 0 then a (ix2 i q) else if (k : ℕ) = 1 then b (ix2 i q) else c (ix2 i q) := by
  have hi := i.isLt
  have v (x : (⟨2, ![F, n]⟩ : Shape).Idx → α) (i' : Fin F) (h : (i' : ℕ) = i) : x (ix2 i' q) = x (ix2 i q) := by
    obtain rfl := Fin.ext h; rfl
  show (if h : (r : ℕ) < F then a (ix2 ⟨(r : ℕ), h⟩ q) else if h' : (r : ℕ) < F + F then b (ix2 ⟨(r : ℕ) - F, _⟩ q) else c (ix2 ⟨(r : ℕ) - (F + F), _⟩ q)) = _
  obtain ⟨k, hk⟩ := k
  simp only at hr ⊢
  interval_cases k
  · rw [dif_pos (by omega), if_pos rfl]; exact v a _ (by simp only []; omega)
  · rw [dif_neg (by omega), dif_pos (by omega), if_neg (by omega), if_pos rfl]; exact v b _ (by simp only []; omega)
  · rw [dif_neg (by omega), dif_neg (by omega), if_neg (by omega), if_neg (by omega)]; exact v c _ (by simp only []; omega)

/-- The reset state at an index. -/
theorem reset_at (g : FVec Ideal S128x4096 .f32) (h : FVec Ideal S64x4096 .f32) (i : Fin 64) (q : Fin 4096) :
    mulf (extractStridedSlice S64x4096 ![0, 0] g slices_S128x4096_o0_0_S64x4096) h (ix2 i q) = g (ix2 ⟨i, by omega⟩ q) * h (ix2 i q) := by
  pointwise []

/-- The blend of the old state and the candidate at an index. -/
theorem blend_at (g : FVec Ideal S128x4096 .f32) (h u : FVec Ideal S64x4096 .f32) (i : Fin 64) (q : Fin 4096) :
    addf (mulf (extractStridedSlice S64x4096 ![64, 0] g slices_S128x4096_o64_0_S64x4096) h) (mulf (subf (broadcast S64x4096 (FloatOps.ofBits (F := Ideal) .f32 0x3F800000#32) : FVec Ideal S64x4096 .f32) (extractStridedSlice S64x4096 ![64, 0] g slices_S128x4096_o64_0_S64x4096)) u) (ix2 i q)
      = g (ix2 ⟨64 + i, by omega⟩ q) * h (ix2 i q) + (1 - g (ix2 ⟨64 + i, by omega⟩ q)) * u (ix2 i q) := by
  pointwise []

/-- Blocks with equal numbers, read at equal places, hold equal values. -/
theorem pick_block {f : ℕ} (A : Fin 8 → FVec Ideal ⟨2, ![f, 512]⟩ .f32) (b b' : Fin 8) (n n' : Fin 512) (i : Fin f)
    (hb : (b : ℕ) = b') (hn : (n : ℕ) = n') : A b (ix2 i n) = A b' (ix2 i n') := by
  obtain rfl := Fin.ext hb
  obtain rfl := Fin.ext hn
  rfl

/-- Eight blocks side by side, read at a batch and a node. -/
theorem beside72_at (A : Fin 8 → FVec Ideal S72x512 .f32) (i : Fin 72) (b : Fin 8) (n : Fin 512) :
    beside72 (A 0) (A 1) (A 2) (A 3) (A 4) (A 5) (A 6) (A 7) (ix2 i (col b n)) = A b (ix2 i n) := by
  obtain ⟨q, hq⟩ : ∃ q : Fin 4096, (q : ℕ) = b * 512 + n := ⟨col b n, rfl⟩
  rw [show col b n = q from Fin.ext hq.symm]
  pointwise [beside72]
  split_ifs
  all_goals first
    | (exfalso; omega)
    | exact pick_block A _ _ _ _ i (by simp; omega) (by simp only []; omega)

/-- Eight blocks side by side whose values at a row and a node are those of `g`. -/
theorem beside72_sel (a0 a1 a2 a3 a4 a5 a6 a7 : FVec Ideal S72x512 .f32) (i : Fin 72) (b : Fin 8) (n : Fin 512) (g : Fin 8 → EReal)
    (h0 : a0 (ix2 i n) = g 0) (h1 : a1 (ix2 i n) = g 1) (h2 : a2 (ix2 i n) = g 2) (h3 : a3 (ix2 i n) = g 3)
    (h4 : a4 (ix2 i n) = g 4) (h5 : a5 (ix2 i n) = g 5) (h6 : a6 (ix2 i n) = g 6) (h7 : a7 (ix2 i n) = g 7) :
    beside72 a0 a1 a2 a3 a4 a5 a6 a7 (ix2 i (col b n)) = g b := by
  refine (beside72_at ![a0, a1, a2, a3, a4, a5, a6, a7] i b n).trans ?_
  fin_cases b <;> assumption

/-- One block of signals times the graph. -/
theorem prod72_at (s : FVec Ideal S512x512 .bf16) (a : FVec Ideal S72x4096 .bf16) (o : ℕ) (h) (i : Fin 72) (n : Fin 512) (ho : o + 512 ≤ 4096) :
    matmul dot_S72x512_S512x512_S72x512_1_0_0_1_n_n none (extractStridedSlice S72x512 ![0, o] a h) s (constant S72x512 .f32 0x00000000#32) (ix2 i n)
      = ∑ k : Fin 512, a (ix2 i ⟨o + k, by omega⟩) * s (ix2 k n) := by
  pointwise []

/-- The kernel's diffusion advances every signal. -/
theorem app72_at (s : FVec Ideal S512x512 .bf16) (G : Fin 512 → Fin 512 → EReal) (hs : ∀ k n, s (ix2 k n) = G n k)
    (a : FVec Ideal S72x4096 .bf16) (b : Fin 8) (i : Fin 72) : rd (app72 s a) b i = adv G (rd a b i) := by
  funext n
  have h (b : Fin 8) (o : ℕ) (hb : o = b * 512) (hsl) :
      matmul dot_S72x512_S512x512_S72x512_1_0_0_1_n_n none (extractStridedSlice S72x512 ![0, o] a hsl) s (constant S72x512 .f32 0x00000000#32) (ix2 i n)
        = adv G (rd a b i) n := by
    rw [prod72_at s a o hsl i n (by omega)]
    refine Finset.sum_congr rfl fun k _ => ?_
    rw [hs k n, mul_comm]
    exact congrArg (fun q => G n k * a (ix2 i q)) (Fin.ext (by simp only [hb]))
  exact beside72_sel _ _ _ _ _ _ _ _ i b n (fun b => adv G (rd a b i) n) (h 0 0 rfl _) (h 1 512 rfl _) (h 2 1024 rfl _)
    (h 3 1536 rfl _) (h 4 2048 rfl _) (h 5 2560 rfl _) (h 6 3072 rfl _) (h 7 3584 rfl _)

/-- Twice the second advance less the signals, at an index. -/
theorem cheb72_at (x y : FVec Ideal S72x4096 .f32) (i : Fin 72) (q : Fin 4096) :
    truncf .bf16 (subf (mulf (broadcast S72x4096 (FloatOps.ofBits (F := Ideal) .f32 0x40000000#32) : FVec Ideal S72x4096 .f32) x) y) bitsLt_bf16_f32 (ix2 i q)
      = Ideal.ofBits .f32 0x40000000#32 * x (ix2 i q) - y (ix2 i q) := by
  pointwise []

/-- The stack holds, at batch `b`, node `n`, signal `i` and term `k`, that term of that signal. -/
theorem stack72_at (s : FVec Ideal S512x512 .bf16) (G : Fin 512 → Fin 512 → EReal) (hs : ∀ k n, s (ix2 k n) = G n k)
    (y : FVec Ideal S72x4096 .f32) (b : Fin 8) (n : Fin 512) (i : Fin 72) (k : Fin 3) (c : Fin 216) (hc : (c : ℕ) = k * 72 + i) :
    stack72 s y (ix2 c (col b n)) = term G (rd y b i) k n := by
  have h0 (x : FVec Ideal S72x4096 .f32) : rd (truncf .bf16 x bitsLt_bf16_f32) b i = rd x b i := rfl
  have h1 : rd (app72 s (truncf .bf16 y bitsLt_bf16_f32)) b i = adv G (rd y b i) := by rw [app72_at s G hs, h0]
  have h2 : rd (app72 s (truncf .bf16 (app72 s (truncf .bf16 y bitsLt_bf16_f32)) bitsLt_bf16_f32)) b i = adv G (adv G (rd y b i)) := by
    rw [app72_at s G hs, h0, h1]
  unfold stack72
  rw [rows3_at _ _ _ _ k i c hc, cheb72_at]
  unfold term
  split_ifs
  · rfl
  · exact congrFun h1 n
  · rw [← h2]; rfl

/-- The features of the first 64 rows are the hidden ones, -/
theorem cat72_hid (h : FVec Ideal S64x4096 .f32) (cur : FVec Ideal S8x4096 .f32) (b : Fin 8) (i : Fin 64) :
    rd (cat72 h cur) b ⟨i, by omega⟩ = rd h b i := by
  funext n
  unfold rd
  pointwise [cat72]

/-- and the row after them is the input signal. -/
theorem cat72_inp (h : FVec Ideal S64x4096 .f32) (cur : FVec Ideal S8x4096 .f32) (b : Fin 8) (i : Fin 1) :
    rd (cat72 h cur) b ⟨64 + i, by omega⟩ = rd cur b ⟨i, by omega⟩ := by
  funext n
  unfold rd
  pointwise [cat72]

/-- A gate's value before the convolution is recognised. -/
theorem gate72_raw (wg : FVec Ideal S128x216 .bf16) (bg : FVec Ideal S128x1 .f32) (t : FVec Ideal S216x4096 .bf16) (j : Fin 128) (q : Fin 4096) :
    logistic (addf (matmul dot_S128x216_S216x4096_S128x4096_1_0_0_1_n_n none wg t (constant S128x4096 .f32 0x00000000#32)) (broadcastTo S128x4096 bg broadcasts_S128x1_S128x4096)) (ix2 j q)
      = Ideal.logistic ((∑ c : Fin 216, wg (ix2 j c) * t (ix2 c q)) + bg (ix2 j 0)) := by
  pointwise []

/-- A candidate's value before the convolution is recognised. -/
theorem cand72_raw (wc : FVec Ideal S64x216 .bf16) (bc : FVec Ideal S64x1 .f32) (t : FVec Ideal S216x4096 .bf16) (j : Fin 64) (q : Fin 4096) :
    tanh (addf (matmul dot_S64x216_S216x4096_S64x4096_1_0_0_1_n_n none wc t (constant S64x4096 .f32 0x00000000#32)) (broadcastTo S64x4096 bc broadcasts_S64x1_S64x4096)) (ix2 j q)
      = Ideal.tanh ((∑ c : Fin 216, wc (ix2 j c) * t (ix2 c q)) + bc (ix2 j 0)) := by
  pointwise []

/-- The first layer's new state is the plain model's cell. -/
theorem cell72_at (s : FVec Ideal S512x512 .bf16) (G : Fin 512 → Fin 512 → EReal) (hs : ∀ k n, s (ix2 k n) = G n k) (W : Wts 1)
    (wg : FVec Ideal S128x216 .bf16) (bg : FVec Ideal S128x1 .f32) (wc : FVec Ideal S64x216 .bf16) (bc : FVec Ideal S64x1 .f32)
    (hwg : Tiled 1 72 128 216 (fun j c => wg (ix2 j c)) W.wg) (hbg : ∀ j, bg (ix2 j 0) = W.bg j)
    (hwc : Tiled 1 72 64 216 (fun j c => wc (ix2 j c)) W.wc) (hbc : ∀ j, bc (ix2 j 0) = W.bc j)
    (cur : FVec Ideal S8x4096 .f32) (h : FVec Ideal S64x4096 .f32) (b : Fin 8) :
    rd (cell72 s wg bg wc bc cur h) b = cell G W (fun i => rd cur b ⟨i, by omega⟩) (rd h b) := by
  have g (j : Fin 128) (n : Fin 512) : gate72 s wg bg (cat72 h cur) (ix2 j (col b n)) = gate G W (fun i => rd cur b ⟨i, by omega⟩) (rd h b) j n := by
    unfold gate72 gate
    rw [gate72_raw, hbg, conv_tiled (e := 7) rfl rfl G W.wg W.bg _ _ j n (rd (cat72 h cur) b) _ _ hwg
      (fun i k c hc => stack72_at s G hs _ b n i k c hc) (cat72_hid h cur b) (cat72_inp h cur b)]
  funext j n
  unfold cell72 cell cand72 cand
  refine (blend_at _ _ _ j (col b n)).trans ?_
  rw [g, cand72_raw, hbc, conv_tiled (e := 7) rfl rfl G W.wc W.bc _ _ j n (rd (cat72 _ cur) b) _ _ hwc
      (fun i k c hc => stack72_at s G hs _ b n i k c hc) (cat72_hid _ cur b) (cat72_inp _ cur b)]
  have r : rd (mulf (extractStridedSlice S64x4096 ![0, 0] (gate72 s wg bg (cat72 h cur)) slices_S128x4096_o0_0_S64x4096) h) b
      = fun (i : Fin 64) (n : Fin 512) => gate G W (fun i => rd cur b ⟨i, by omega⟩) (rd h b) ⟨i, by omega⟩ n * rd h b i n := by
    funext i n
    exact (reset_at _ _ i (col b n)).trans (congrArg (· * _) (g _ n))
  rw [r]
  rfl
/-- Eight blocks side by side, read at a batch and a node. -/
theorem beside128_at (A : Fin 8 → FVec Ideal S128x512 .f32) (i : Fin 128) (b : Fin 8) (n : Fin 512) :
    beside128 (A 0) (A 1) (A 2) (A 3) (A 4) (A 5) (A 6) (A 7) (ix2 i (col b n)) = A b (ix2 i n) := by
  obtain ⟨q, hq⟩ : ∃ q : Fin 4096, (q : ℕ) = b * 512 + n := ⟨col b n, rfl⟩
  rw [show col b n = q from Fin.ext hq.symm]
  pointwise [beside128]
  split_ifs
  all_goals first
    | (exfalso; omega)
    | exact pick_block A _ _ _ _ i (by simp; omega) (by simp only []; omega)

/-- Eight blocks side by side whose values at a row and a node are those of `g`. -/
theorem beside128_sel (a0 a1 a2 a3 a4 a5 a6 a7 : FVec Ideal S128x512 .f32) (i : Fin 128) (b : Fin 8) (n : Fin 512) (g : Fin 8 → EReal)
    (h0 : a0 (ix2 i n) = g 0) (h1 : a1 (ix2 i n) = g 1) (h2 : a2 (ix2 i n) = g 2) (h3 : a3 (ix2 i n) = g 3)
    (h4 : a4 (ix2 i n) = g 4) (h5 : a5 (ix2 i n) = g 5) (h6 : a6 (ix2 i n) = g 6) (h7 : a7 (ix2 i n) = g 7) :
    beside128 a0 a1 a2 a3 a4 a5 a6 a7 (ix2 i (col b n)) = g b := by
  refine (beside128_at ![a0, a1, a2, a3, a4, a5, a6, a7] i b n).trans ?_
  fin_cases b <;> assumption

/-- One block of signals times the graph. -/
theorem prod128_at (s : FVec Ideal S512x512 .bf16) (a : FVec Ideal S128x4096 .bf16) (o : ℕ) (h) (i : Fin 128) (n : Fin 512) (ho : o + 512 ≤ 4096) :
    matmul dot_S128x512_S512x512_S128x512_1_0_0_1_n_n none (extractStridedSlice S128x512 ![0, o] a h) s (constant S128x512 .f32 0x00000000#32) (ix2 i n)
      = ∑ k : Fin 512, a (ix2 i ⟨o + k, by omega⟩) * s (ix2 k n) := by
  pointwise []

/-- The kernel's diffusion advances every signal. -/
theorem app128_at (s : FVec Ideal S512x512 .bf16) (G : Fin 512 → Fin 512 → EReal) (hs : ∀ k n, s (ix2 k n) = G n k)
    (a : FVec Ideal S128x4096 .bf16) (b : Fin 8) (i : Fin 128) : rd (app128 s a) b i = adv G (rd a b i) := by
  funext n
  have h (b : Fin 8) (o : ℕ) (hb : o = b * 512) (hsl) :
      matmul dot_S128x512_S512x512_S128x512_1_0_0_1_n_n none (extractStridedSlice S128x512 ![0, o] a hsl) s (constant S128x512 .f32 0x00000000#32) (ix2 i n)
        = adv G (rd a b i) n := by
    rw [prod128_at s a o hsl i n (by omega)]
    refine Finset.sum_congr rfl fun k _ => ?_
    rw [hs k n, mul_comm]
    exact congrArg (fun q => G n k * a (ix2 i q)) (Fin.ext (by simp only [hb]))
  exact beside128_sel _ _ _ _ _ _ _ _ i b n (fun b => adv G (rd a b i) n) (h 0 0 rfl _) (h 1 512 rfl _) (h 2 1024 rfl _)
    (h 3 1536 rfl _) (h 4 2048 rfl _) (h 5 2560 rfl _) (h 6 3072 rfl _) (h 7 3584 rfl _)

/-- Twice the second advance less the signals, at an index. -/
theorem cheb128_at (x y : FVec Ideal S128x4096 .f32) (i : Fin 128) (q : Fin 4096) :
    truncf .bf16 (subf (mulf (broadcast S128x4096 (FloatOps.ofBits (F := Ideal) .f32 0x40000000#32) : FVec Ideal S128x4096 .f32) x) y) bitsLt_bf16_f32 (ix2 i q)
      = Ideal.ofBits .f32 0x40000000#32 * x (ix2 i q) - y (ix2 i q) := by
  pointwise []

/-- The stack holds, at batch `b`, node `n`, signal `i` and term `k`, that term of that signal. -/
theorem stack128_at (s : FVec Ideal S512x512 .bf16) (G : Fin 512 → Fin 512 → EReal) (hs : ∀ k n, s (ix2 k n) = G n k)
    (y : FVec Ideal S128x4096 .f32) (b : Fin 8) (n : Fin 512) (i : Fin 128) (k : Fin 3) (c : Fin 384) (hc : (c : ℕ) = k * 128 + i) :
    stack128 s y (ix2 c (col b n)) = term G (rd y b i) k n := by
  have h0 (x : FVec Ideal S128x4096 .f32) : rd (truncf .bf16 x bitsLt_bf16_f32) b i = rd x b i := rfl
  have h1 : rd (app128 s (truncf .bf16 y bitsLt_bf16_f32)) b i = adv G (rd y b i) := by rw [app128_at s G hs, h0]
  have h2 : rd (app128 s (truncf .bf16 (app128 s (truncf .bf16 y bitsLt_bf16_f32)) bitsLt_bf16_f32)) b i = adv G (adv G (rd y b i)) := by
    rw [app128_at s G hs, h0, h1]
  unfold stack128
  rw [rows3_at _ _ _ _ k i c hc, cheb128_at]
  unfold term
  split_ifs
  · rfl
  · exact congrFun h1 n
  · rw [← h2]; rfl

/-- The features of the first 64 rows are the hidden ones, -/
theorem cat128_hid (h : FVec Ideal S64x4096 .f32) (cur : FVec Ideal S64x4096 .f32) (b : Fin 8) (i : Fin 64) :
    rd (cat128 h cur) b ⟨i, by omega⟩ = rd h b i := by
  funext n
  unfold rd
  pointwise [cat128]

/-- and the last 64 rows are the input features. -/
theorem cat128_inp (h : FVec Ideal S64x4096 .f32) (cur : FVec Ideal S64x4096 .f32) (b : Fin 8) (i : Fin 64) :
    rd (cat128 h cur) b ⟨64 + i, by omega⟩ = rd cur b i := by
  funext n
  unfold rd
  pointwise [cat128]

/-- A gate's value before the convolution is recognised. -/
theorem gate128_raw (wg : FVec Ideal S128x384 .bf16) (bg : FVec Ideal S128x1 .f32) (t : FVec Ideal S384x4096 .bf16) (j : Fin 128) (q : Fin 4096) :
    logistic (addf (matmul dot_S128x384_S384x4096_S128x4096_1_0_0_1_n_n none wg t (constant S128x4096 .f32 0x00000000#32)) (broadcastTo S128x4096 bg broadcasts_S128x1_S128x4096)) (ix2 j q)
      = Ideal.logistic ((∑ c : Fin 384, wg (ix2 j c) * t (ix2 c q)) + bg (ix2 j 0)) := by
  pointwise []

/-- A candidate's value before the convolution is recognised. -/
theorem cand128_raw (wc : FVec Ideal S64x384 .bf16) (bc : FVec Ideal S64x1 .f32) (t : FVec Ideal S384x4096 .bf16) (j : Fin 64) (q : Fin 4096) :
    tanh (addf (matmul dot_S64x384_S384x4096_S64x4096_1_0_0_1_n_n none wc t (constant S64x4096 .f32 0x00000000#32)) (broadcastTo S64x4096 bc broadcasts_S64x1_S64x4096)) (ix2 j q)
      = Ideal.tanh ((∑ c : Fin 384, wc (ix2 j c) * t (ix2 c q)) + bc (ix2 j 0)) := by
  pointwise []

/-- The second layer's new state is the plain model's cell. -/
theorem cell128_at (s : FVec Ideal S512x512 .bf16) (G : Fin 512 → Fin 512 → EReal) (hs : ∀ k n, s (ix2 k n) = G n k) (W : Wts 64)
    (wg : FVec Ideal S128x384 .bf16) (bg : FVec Ideal S128x1 .f32) (wc : FVec Ideal S64x384 .bf16) (bc : FVec Ideal S64x1 .f32)
    (hwg : Tiled 64 128 128 384 (fun j c => wg (ix2 j c)) W.wg) (hbg : ∀ j, bg (ix2 j 0) = W.bg j)
    (hwc : Tiled 64 128 64 384 (fun j c => wc (ix2 j c)) W.wc) (hbc : ∀ j, bc (ix2 j 0) = W.bc j)
    (cur : FVec Ideal S64x4096 .f32) (h : FVec Ideal S64x4096 .f32) (b : Fin 8) :
    rd (cell128 s wg bg wc bc cur h) b = cell G W (rd cur b) (rd h b) := by
  have g (j : Fin 128) (n : Fin 512) : gate128 s wg bg (cat128 h cur) (ix2 j (col b n)) = gate G W (rd cur b) (rd h b) j n := by
    unfold gate128 gate
    rw [gate128_raw, hbg, conv_tiled (e := 0) rfl rfl G W.wg W.bg _ _ j n (rd (cat128 h cur) b) _ _ hwg
      (fun i k c hc => stack128_at s G hs _ b n i k c hc) (cat128_hid h cur b) (cat128_inp h cur b)]
  funext j n
  unfold cell128 cell cand128 cand
  refine (blend_at _ _ _ j (col b n)).trans ?_
  rw [g, cand128_raw, hbc, conv_tiled (e := 0) rfl rfl G W.wc W.bc _ _ j n (rd (cat128 _ cur) b) _ _ hwc
      (fun i k c hc => stack128_at s G hs _ b n i k c hc) (cat128_hid _ cur b) (cat128_inp _ cur b)]
  have r : rd (mulf (extractStridedSlice S64x4096 ![0, 0] (gate128 s wg bg (cat128 h cur)) slices_S128x4096_o0_0_S64x4096) h) b
      = fun (i : Fin 64) (n : Fin 512) => gate G W (rd cur b) (rd h b) ⟨i, by omega⟩ n * rd h b i n := by
    funext i n
    exact (reset_at _ _ i (col b n)).trans (congrArg (· * _) (g _ n))
  rw [r]
  rfl

/-- The projected signal is the plain model's. -/
theorem projK_at (w : FVec Ideal S1x64 .f32) (b0 : FVec Ideal S1x1 .f32) (h : FVec Ideal S64x4096 .f32) (b : Fin 8) (n : Fin 512)
    (wp : Fin 64 → EReal) (bp : EReal) (hw : ∀ i, w (ix2 0 i) = wp i) (hb : b0 (ix2 0 0) = bp) :
    projK w b0 h (ix2 0 (col b n)) = proj wp bp (rd h b) n := by
  have e : projK w b0 h (ix2 0 (col b n)) = (∑ i : Fin 64, w (ix2 0 i) * h (ix2 i (col b n))) + b0 (ix2 0 0) := by
    obtain ⟨q, hq⟩ : ∃ q : Fin 4096, q = col b n := ⟨_, rfl⟩
    rw [← hq]
    pointwise [projK]
  rw [e, hb]
  unfold proj
  refine congrArg (· + bp) (Finset.sum_congr rfl fun i _ => ?_)
  rw [hw, mul_comm]
  rfl

end Cert.KernelIdeal.Vec

end
-- ==== Proof.KerPoint.lean ====
/- What one grid point leaves in its result block and in the three buffers it carries: two time steps of the kernel's cells. -/
module

public import proofs.«01_k».proof.Proof.KerDefs
public import proofs.«01_k».proof.Proof.Gen.KernelIdeal.Value
public import Idealize.ShloMosaic.Lib.Pipeline.ValueKit

@[expose] public section

set_option maxRecDepth 16384

noncomputable section

namespace Cert.KernelIdeal.Vec
open Cert.KernelIdeal Cert.KernelIdeal.Gen Idealize.ShloMosaic Idealize.ShloMosaic.TcCoe Idealize.SL.Sem

/-- The projected signal put into row 0 of the input buffer. -/
def putRow (p : FVec Ideal S1x4096 .f32) (x : FVec Ideal S8x4096 .f32) : FVec Ideal S8x4096 .f32 := fun j =>
  if (j 0).val = 0 then p (ix2 0 (j 1 : Fin 4096)) else x j

/-- The result block of a grid point: the signals of its two time steps. -/
def outs (p q : FVec Ideal S1x4096 .f32) : FVec Ideal S2x1x4096 .f32 := fun j =>
  if (j 0).val = 0 then p (ix2 0 (j 2 : Fin 4096)) else q (ix2 0 (j 2 : Fin 4096))

/-- Layer `l`'s initial hidden state. -/
def start (l : Fin 2) (x : Vec Ideal S2x64x4096 .f32) : FVec Ideal S64x4096 .f32 := fun i => x (ix3 l (i 0 : Fin 64) (i 1 : Fin 4096))

/-- The input buffer at the first time step. -/
def blank : FVec Ideal S8x4096 .f32 := broadcast S8x4096 (FloatOps.ofBits (F := Ideal) .f32 0x00000000#32)

/-- The array of zeros that the first grid step stores is the blank one. -/
theorem blank_eq : (broadcast S8x4096 (FloatOps.ofBits (F := Ideal) .f32 0x00000000#32) : FVec Ideal S8x4096 .f32) = blank := rfl

/-- An index in row 0 is one of the first row's rectangle. -/
theorem row_cases (j : S8x4096.Idx) : (j 0).val = 0 → ∀ inb, j = (Rect.unit (s := S8x4096) ![0, 0] ![1, 4096] inb).emb (ix2 0 (j 1 : Fin 4096)) := fun h inb => by
  funext a; apply Fin.ext
  fin_cases a
  · show (j 0).val = 0 + 1 * 0; omega
  · show (j 1).val = 0 + 1 * (j 1).val; omega

/-- An index in another row is outside the first row's rectangle. -/
theorem row_off (j : S8x4096.Idx) (h : ¬ (j 0).val = 0) (inb) : j ∉ (Rect.unit (s := S8x4096) ![0, 0] ![1, 4096] inb).set := fun hm => by
  obtain ⟨z, rfl⟩ := (Rect.unit (s := S8x4096) ![0, 0] ![1, 4096] inb).exists_idx_of_mem hm
  have hz : (z 0).val < 1 := (z 0).isLt
  exact h (by show 0 + 1 * (z 0).val = 0; omega)

/-- Row 0 stored last over earlier stores. -/
theorem canon_putRow (p : Vec Ideal S1x4096 .f32) (L : List (View.Piece (Elt Ideal) S8x4096 .f32)) (inb) :
    View.canon (⟨Rect.unit (s := S8x4096) ![0, 0] ![1, 4096] inb, p⟩ :: L) = putRow p (View.canon L) := by
  funext j
  unfold putRow
  split_ifs with h
  · exact (congrArg (View.canon _) (row_cases j h inb)).trans (View.canon_cons_emb (Rect.unit (s := S8x4096) ![0, 0] ![1, 4096] inb) p L _)
  · exact View.canon_cons_of_not_mem _ L (row_off j h inb)

/-- The whole buffer stored. -/
theorem canon_whole (z : Vec Ideal S8x4096 .f32) (L : List (View.Piece (Elt Ideal) S8x4096 .f32)) (inb) :
    View.canon (⟨Rect.unit (s := S8x4096) ![0, 0] ![8, 4096] inb, z⟩ :: L) = z :=
  View.canon_cons_unit_lit (S := S8x4096) inb z L (by decide)

/-- A load of the whole input buffer. -/
theorem load_whole {sp : Space} (v : View sig .tc sp S8x4096 .f32) (L : List (View.Piece (Elt Ideal) S8x4096 .f32)) (inb) :
    v.readCov (Val := Elt Ideal) L (Rect.unit (s := S8x4096) ![0, 0] ![8, 4096] inb).toLoadRect = View.canon L := by
  rw [View.readCov_eq_canon']
  funext j
  refine congrArg (View.canon L) ?_
  funext a; apply Fin.ext
  fin_cases a
  · show 0 + 1 * (j 0).val = (j 0).val; omega
  · show 0 + 1 * (j 1).val = (j 1).val; omega

/-- Row 0 stored over what the point before left. -/
theorem read_putRow {sp : Space} (v : View sig .tc sp S8x4096 .f32) (f : v.ty.Contents (Elt Ideal)) (p : Vec Ideal S1x4096 .f32)
    (L : List (View.Piece (Elt Ideal) S8x4096 .f32)) (inb) :
    v.read (Elt Ideal) (v.writes (Elt Ideal) f (⟨Rect.unit (s := S8x4096) ![0, 0] ![1, 4096] inb, p⟩ :: L))
      = putRow p (v.read (Elt Ideal) (v.writes (Elt Ideal) f L)) := by
  funext j
  unfold putRow
  split_ifs with h
  · exact (congrArg (v.read (Elt Ideal) _) (row_cases j h inb)).trans
      (View.read_writes_cons_emb v f (Rect.unit (s := S8x4096) ![0, 0] ![1, 4096] inb) p L _)
  · rw [View.writes_cons]
    exact View.read_slice_write_of_not_mem (Rect.unit (s := S8x4096) ![0, 0] ![1, 4096] inb) _ _ _ (by
      rw [Rect.map_emb_univ]; exact row_off j h inb)

/-- No store leaves what the point before left. -/
theorem read_none {sp : Space} (v : View sig .tc sp S8x4096 .f32) (f : v.ty.Contents (Elt Ideal)) :
    v.read (Elt Ideal) (v.writes (Elt Ideal) f []) = v.read (Elt Ideal) f := by rw [View.writes_nil]

/-- The two stored signals are the result block. -/
theorem canon_outs (p q : FVec Ideal S1x4096 .f32) (inb0 inb1) :
    View.canon (Val := Elt Ideal) (s := S2x1x4096) (e := .f32)
      [⟨Rect.unit (s := S2x1x4096) ![1, 0, 0] ![1, 1, 4096] inb1, shapeCast S1x1x4096 q shapeCasts_S1x4096_S1x1x4096⟩,
       ⟨Rect.unit (s := S2x1x4096) ![0, 0, 0] ![1, 1, 4096] inb0, shapeCast S1x1x4096 p shapeCasts_S1x4096_S1x1x4096⟩] = outs p q := by
  funext j
  obtain ⟨a, b, c, rfl⟩ : ∃ (a : Fin 2) (b : Fin 1) (c : Fin 4096), j = ix3 a b c := ⟨j 0, j 1, j 2, eq_ix3 j⟩
  obtain rfl : b = 0 := Subsingleton.elim _ _
  have e0 : (ix3 0 0 c : S2x1x4096.Idx) = (Rect.unit (s := S2x1x4096) ![0, 0, 0] ![1, 1, 4096] inb0).emb (ix3 0 0 c) := by
    funext a; apply Fin.ext
    fin_cases a
    · rfl
    · rfl
    · show c.val = 0 + 1 * c.val; omega
  have e1 : (ix3 1 0 c : S2x1x4096.Idx) = (Rect.unit (s := S2x1x4096) ![1, 0, 0] ![1, 1, 4096] inb1).emb (ix3 0 0 c) := by
    funext a; apply Fin.ext
    fin_cases a
    · rfl
    · rfl
    · show c.val = 0 + 1 * c.val; omega
  have hr (x : FVec Ideal S1x4096 .f32) : shapeCast S1x1x4096 x shapeCasts_S1x4096_S1x1x4096 (ix3 0 0 c) = x (ix2 0 c) := by
    pointwise []
  fin_cases a
  · refine (View.canon_cons_of_not_mem _ _ (fun hm => ?_)).trans
      (((congrArg (View.canon _) e0).trans (View.canon_cons_emb (Rect.unit (s := S2x1x4096) ![0, 0, 0] ![1, 1, 4096] inb0) _ _ _)).trans (hr p))
    obtain ⟨z, hz⟩ := (Rect.unit (s := S2x1x4096) ![1, 0, 0] ![1, 1, 4096] inb1).exists_idx_of_mem hm
    have h0 : 1 + 1 * (z 0).val = 0 := congrArg (fun i : S2x1x4096.Idx => (i 0).val) hz
    omega
  · exact ((congrArg (View.canon _) e1).trans (View.canon_cons_emb (Rect.unit (s := S2x1x4096) ![1, 0, 0] ![1, 1, 4096] inb1) _ _ _)).trans (hr q)

/-- Layer `l`'s slice of the initial states, loaded and its unit axis dropped, is its initial state. -/
theorem start_at (l : Fin 2) (x : Vec Ideal S2x64x4096 .f32) (y : Vec Ideal S1x64x4096 .f32)
    (e : ∀ (i : Fin 64) (n : Fin 4096), y (ix3 0 i n) = x (ix3 l i n)) :
    (shapeCast S64x4096 (α := Ideal .f32) y shapeCasts_S1x64x4096_S64x4096 : FVec Ideal S64x4096 .f32) = start l x := by
  funext i
  obtain ⟨a, b, rfl⟩ : ∃ (a : Fin 64) (b : Fin 4096), i = ix2 a b := ⟨i 0, i 1, eq_ix2 i⟩
  refine Eq.trans ?_ (e a b)
  pointwise []

/-- The slice of the initial states that belongs to the first layer, -/
theorem start0 (x : Vec Ideal S2x64x4096 .f32) (inb) :
    (shapeCast S64x4096 (α := Ideal .f32) (View.ld x (Rect.unit (s := S2x64x4096) ![0, 0, 0] ![1, 64, 4096] inb)) shapeCasts_S1x64x4096_S64x4096
      : FVec Ideal S64x4096 .f32) = start 0 x :=
  start_at 0 x _ (fun i n => congrArg x (by
    funext a; apply Fin.ext
    fin_cases a
    · rfl
    · show 0 + 1 * i.val = i.val; omega
    · show 0 + 1 * n.val = n.val; omega))

/-- and to the second. -/
theorem start1 (x : Vec Ideal S2x64x4096 .f32) (inb) :
    (shapeCast S64x4096 (α := Ideal .f32) (View.ld x (Rect.unit (s := S2x64x4096) ![1, 0, 0] ![1, 64, 4096] inb)) shapeCasts_S1x64x4096_S64x4096
      : FVec Ideal S64x4096 .f32) = start 1 x :=
  start_at 1 x _ (fun i n => congrArg x (by
    funext a; apply Fin.ext
    fin_cases a
    · rfl
    · show 0 + 1 * i.val = i.val; omega
    · show 0 + 1 * n.val = n.val; omega))

/-- The blocks that stay the same over the time steps: the graph, both cells' weights and biases, the projection's. -/
structure Blocks where
  s : FVec Ideal S512x512 .bf16
  w1g : FVec Ideal S128x216 .bf16
  b1g : FVec Ideal S128x1 .f32
  w1c : FVec Ideal S64x216 .bf16
  b1c : FVec Ideal S64x1 .f32
  w2g : FVec Ideal S128x384 .bf16
  b2g : FVec Ideal S128x1 .f32
  w2c : FVec Ideal S64x384 .bf16
  b2c : FVec Ideal S64x1 .f32
  wp : FVec Ideal S1x64 .f32
  bp : FVec Ideal S1x1 .f32

/-- What the kernel carries between time steps: the input buffer and the two hidden states. -/
structure Carry where
  cur : FVec Ideal S8x4096 .f32
  h0 : FVec Ideal S64x4096 .f32
  h1 : FVec Ideal S64x4096 .f32

/-- One time step of the kernel. -/
def stepK (B : Blocks) (u : Carry) : Carry :=
  ⟨putRow (projK B.wp B.bp (cell128 B.s B.w2g B.b2g B.w2c B.b2c (cell72 B.s B.w1g B.b1g B.w1c B.b1c u.cur u.h0) u.h1)) u.cur,
    cell72 B.s B.w1g B.b1g B.w1c B.b1c u.cur u.h0,
    cell128 B.s B.w2g B.b2g B.w2c B.b2c (cell72 B.s B.w1g B.b1g B.w1c B.b1c u.cur u.h0) u.h1⟩

/-- Two time steps: the result block and what is carried on. -/
def pointK (B : Blocks) (u : Carry) :
    Vec Ideal S2x1x4096 .f32 × Vec Ideal S64x4096 .f32 × Vec Ideal S64x4096 .f32 × Vec Ideal S8x4096 .f32 :=
  (outs (projK B.wp B.bp (stepK B u).h1) (projK B.wp B.bp (stepK B (stepK B u)).h1),
    (stepK B (stepK B u)).h0, (stepK B (stepK B u)).h1, (stepK B (stepK B u)).cur)

variable (m : (ℓ : Loc nD τ sig) → Buf (Elt Ideal) ℓ) (c : Dev nD)

/-- A grid point's blocks. -/
def blocks (t : Fin cfg0.N) : Blocks :=
  ⟨iblk m c 0 t, iblk m c 2 t, iblk m c 3 t, iblk m c 4 t, iblk m c 5 t, iblk m c 6 t, iblk m c 7 t, iblk m c 8 t, iblk m c 9 t,
    iblk m c 10 t, iblk m c 11 t⟩

set_option maxHeartbeats 1000000 in
/-- A later grid point takes two time steps from what the point before it left. -/
theorem pointB (t : Fin cfg0.N) (h0 : ¬ t.val % 3 = 0) (acc) :
    Cert.KernelIdeal.Value.stAt0 m c t.val t.isLt acc = pointK (blocks m c t) ⟨acc.2.2.2, acc.2.1, acc.2.2.1⟩ := by
  rw [Cert.KernelIdeal.Value.stAt0_B m c t acc h0]
  rw [blocks]
  obtain ⟨x0, e0⟩ : ∃ x : Vec Ideal S512x512 .bf16, x = iblk m c 0 t := ⟨_, rfl⟩
  rw [← e0]
  obtain ⟨x1, e1⟩ : ∃ x : Vec Ideal S2x64x4096 .f32, x = iblk m c 1 t := ⟨_, rfl⟩
  rw [← e1]
  obtain ⟨x2, e2⟩ : ∃ x : Vec Ideal S128x216 .bf16, x = iblk m c 2 t := ⟨_, rfl⟩
  rw [← e2]
  obtain ⟨x3, e3⟩ : ∃ x : Vec Ideal S128x1 .f32, x = iblk m c 3 t := ⟨_, rfl⟩
  rw [← e3]
  obtain ⟨x4, e4⟩ : ∃ x : Vec Ideal S64x216 .bf16, x = iblk m c 4 t := ⟨_, rfl⟩
  rw [← e4]
  obtain ⟨x5, e5⟩ : ∃ x : Vec Ideal S64x1 .f32, x = iblk m c 5 t := ⟨_, rfl⟩
  rw [← e5]
  obtain ⟨x6, e6⟩ : ∃ x : Vec Ideal S128x384 .bf16, x = iblk m c 6 t := ⟨_, rfl⟩
  rw [← e6]
  obtain ⟨x7, e7⟩ : ∃ x : Vec Ideal S128x1 .f32, x = iblk m c 7 t := ⟨_, rfl⟩
  rw [← e7]
  obtain ⟨x8, e8⟩ : ∃ x : Vec Ideal S64x384 .bf16, x = iblk m c 8 t := ⟨_, rfl⟩
  rw [← e8]
  obtain ⟨x9, e9⟩ : ∃ x : Vec Ideal S64x1 .f32, x = iblk m c 9 t := ⟨_, rfl⟩
  rw [← e9]
  obtain ⟨x10, e10⟩ : ∃ x : Vec Ideal S1x64 .f32, x = iblk m c 10 t := ⟨_, rfl⟩
  rw [← e10]
  obtain ⟨x11, e11⟩ : ∃ x : Vec Ideal S1x1 .f32, x = iblk m c 11 t := ⟨_, rfl⟩
  rw [← e11]
  frame_open
  simp (disch := decide) only [↓ View.readCov_skip, ↓ View.readCov_cons_toLoadRect, ↓ View.readCov_fill]
  frame_out
  simp (disch := decide) only [beside72_eq, beside128_eq, read_scratch0, read_scratch1, read_scratch2, cols72, cols128, load72, load128, shapeCast_f32, shapeCast_bf16, shapeCast_self, app72_eq, cat72_eq, stack72_eq, gate72_eq, cand72_eq, cell72_eq, app128_eq, cat128_eq, stack128_eq, gate128_eq, cand128_eq, cell128_eq, projK_eq,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, blank_eq, start0, start1, load_whole, canon_putRow, canon_whole, read_putRow, read_none]
  clear e0 e1 e2 e3 e4 e5 e6 e7 e8 e9 e10 e11
  dsimp only [pointK, stepK]
  exact congrArg₂ Prod.mk (canon_outs _ _ _ _) rfl

set_option maxHeartbeats 1000000 in
/-- The first grid point takes two time steps from the initial states and a blank input buffer. -/
theorem pointA (t : Fin cfg0.N) (h0 : t.val % 3 = 0) (acc) :
    Cert.KernelIdeal.Value.stAt0 m c t.val t.isLt acc = pointK (blocks m c t) ⟨blank, start 0 (iblk m c 1 t), start 1 (iblk m c 1 t)⟩ := by
  rw [Cert.KernelIdeal.Value.stAt0_A m c t acc h0]
  rw [blocks]
  obtain ⟨x0, e0⟩ : ∃ x : Vec Ideal S512x512 .bf16, x = iblk m c 0 t := ⟨_, rfl⟩
  rw [← e0]
  obtain ⟨x1, e1⟩ : ∃ x : Vec Ideal S2x64x4096 .f32, x = iblk m c 1 t := ⟨_, rfl⟩
  rw [← e1]
  obtain ⟨x2, e2⟩ : ∃ x : Vec Ideal S128x216 .bf16, x = iblk m c 2 t := ⟨_, rfl⟩
  rw [← e2]
  obtain ⟨x3, e3⟩ : ∃ x : Vec Ideal S128x1 .f32, x = iblk m c 3 t := ⟨_, rfl⟩
  rw [← e3]
  obtain ⟨x4, e4⟩ : ∃ x : Vec Ideal S64x216 .bf16, x = iblk m c 4 t := ⟨_, rfl⟩
  rw [← e4]
  obtain ⟨x5, e5⟩ : ∃ x : Vec Ideal S64x1 .f32, x = iblk m c 5 t := ⟨_, rfl⟩
  rw [← e5]
  obtain ⟨x6, e6⟩ : ∃ x : Vec Ideal S128x384 .bf16, x = iblk m c 6 t := ⟨_, rfl⟩
  rw [← e6]
  obtain ⟨x7, e7⟩ : ∃ x : Vec Ideal S128x1 .f32, x = iblk m c 7 t := ⟨_, rfl⟩
  rw [← e7]
  obtain ⟨x8, e8⟩ : ∃ x : Vec Ideal S64x384 .bf16, x = iblk m c 8 t := ⟨_, rfl⟩
  rw [← e8]
  obtain ⟨x9, e9⟩ : ∃ x : Vec Ideal S64x1 .f32, x = iblk m c 9 t := ⟨_, rfl⟩
  rw [← e9]
  obtain ⟨x10, e10⟩ : ∃ x : Vec Ideal S1x64 .f32, x = iblk m c 10 t := ⟨_, rfl⟩
  rw [← e10]
  obtain ⟨x11, e11⟩ : ∃ x : Vec Ideal S1x1 .f32, x = iblk m c 11 t := ⟨_, rfl⟩
  rw [← e11]
  frame_open
  simp (disch := decide) only [↓ View.readCov_skip, ↓ View.readCov_cons_toLoadRect, ↓ View.readCov_fill]
  frame_out
  simp (disch := decide) only [beside72_eq, beside128_eq, read_scratch0, read_scratch1, read_scratch2, cols72, cols128, load72, load128, shapeCast_f32, shapeCast_bf16, shapeCast_self, app72_eq, cat72_eq, stack72_eq, gate72_eq, cand72_eq, cell72_eq, app128_eq, cat128_eq, stack128_eq, gate128_eq, cand128_eq, cell128_eq, projK_eq,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, blank_eq, start0, start1, load_whole, canon_putRow, canon_whole, read_putRow, read_none]
  clear e0 e1 e2 e3 e4 e5 e6 e7 e8 e9 e10 e11
  dsimp only [pointK, stepK]
  exact congrArg₂ Prod.mk (canon_outs _ _ _ _) rfl

end Cert.KernelIdeal.Vec

end
-- ==== Proof.KerHost.lean ====
/- What the kernel's host code hands to the launch: the graph transposed, the states feature-major, the weights arranged. -/
module

public import proofs.«01_k».proof.Proof.KerCell
public import proofs.«01_k».proof.Proof.KerPoint
public import Idealize.ShloMosaic.Lib.Pipeline.ValueKit

@[expose] public section

set_option maxRecDepth 16384

noncomputable section

namespace Cert.KernelIdeal.Vec

open Cert.KernelIdeal Cert.KernelIdeal.Gen Idealize.ShloMosaic Idealize.ShloMosaic.TcCoe Idealize.SL.Sem
open Cert.Model

/-- The graph handed to the kernel. -/
def prepS (s : FVec Ideal S1x512x512 .f32) : FVec Ideal S512x512 .bf16 :=
  truncf .bf16 (transpose S512x512 [1, 0] (shapeCast S512x512 s shapeCasts_S1x512x512_S512x512) transposes_S512x512_S512x512_1_0) bitsLt_bf16_f32

/-- The kernel's graph is the transpose. -/
theorem prepS_at (s : FVec Ideal S1x512x512 .f32) (k n : Fin 512) : prepS s (ix2 k n) = graph s n k := by
  unfold graph
  pointwise [prepS]

/-- The initial states handed to the kernel. -/
def prepH (h : FVec Ideal S2x8x32768 .f32) : FVec Ideal S2x64x4096 .f32 :=
  shapeCast S2x64x4096 (transpose S2x64x8x512 [0, 3, 1, 2] (shapeCast S2x8x512x64 h shapeCasts_S2x8x32768_S2x8x512x64) transposes_S2x8x512x64_S2x64x8x512_0_3_1_2) shapeCasts_S2x64x8x512_S2x64x4096

/-- The prepared hidden states at column `q`: batch `q / 512`, node `q % 512`. -/
theorem prepH_raw (h : FVec Ideal S2x8x32768 .f32) (l : Fin 2) (i : Fin 64) (q : Fin 4096) :
    prepH h (ix3 l i q) = h (ix3 l ⟨q / 512, by omega⟩ ⟨q % 512 * 64 + i, by omega⟩) := by
  pointwise [prepH]

/-- Layer `l`'s feature `i` of batch `b` and node `n`. -/
theorem prepH_at (h : FVec Ideal S2x8x32768 .f32) (l : Fin 2) (b : Fin 8) (i : Fin 64) (n : Fin 512) :
    prepH h (ix3 l i (col b n)) = h (ix3 l b ⟨n * 64 + i, by omega⟩) := by
  rw [prepH_raw]
  have e1 : (⟨(col b n : ℕ) / 512, by omega⟩ : Fin 8) = b := Fin.ext (by simp only []; omega)
  have e2 : (⟨(col b n : ℕ) % 512 * 64 + i, by omega⟩ : Fin 32768) = ⟨n * 64 + i, by omega⟩ := Fin.ext (by simp only []; omega)
  rw [e1, e2]

/-- Weights read at `hidden row, then input row, then zero` within each Chebyshev term's columns are arranged. -/
theorem tiled_of_raw {d F o N : ℕ} (hF : 64 + d ≤ F) (hN : N = 3 * F) (w : FVec Ideal ⟨2, ![(d + 64) * 3, o]⟩ .f32)
    (U : Fin o → Fin N → EReal)
    (hU : ∀ (j : Fin o) (c : Fin N), U j c = if h : (c : ℕ) % F < 64 then
        w (ix2 ⟨(d + c % F) * 3 + c / F, by have : (c : ℕ) / F < 3 := Nat.div_lt_of_lt_mul (by have := c.2; rw [Nat.mul_comm]; omega); omega⟩ j)
      else if h' : (c : ℕ) % F - 64 < d then
        w (ix2 ⟨(c % F - 64) * 3 + c / F, by have : (c : ℕ) / F < 3 := Nat.div_lt_of_lt_mul (by have := c.2; rw [Nat.mul_comm]; omega); omega⟩ j)
      else 0) :
    Tiled d F o N U (fun r j => w (ix2 ⟨r.1, r.2⟩ j)) := by
  have hq (c k i : ℕ) (hi : i < F) (hc : c = k * F + i) : c % F = i ∧ c / F = k := by
    subst hc
    rw [Nat.add_comm, Nat.add_mul_mod_self_right, Nat.add_mul_div_right _ _ (by omega), Nat.mod_eq_of_lt hi, Nat.div_eq_of_lt hi]
    omega
  have hw (a b : Fin ((d + 64) * 3)) (h : (a : ℕ) = b) (j : Fin o) : w (ix2 a j) = w (ix2 b j) := by rw [Fin.ext h]
  constructor
  · intro j i k c hc
    obtain ⟨h1, h2⟩ := hq c k i (by omega) hc
    rw [hU, dif_pos (by omega)]
    exact hw _ _ (by simp only [h1, h2]) j
  · intro j i k c hc
    obtain ⟨h1, h2⟩ := hq c k (64 + i) (by omega) hc
    rw [hU, dif_neg (by omega), dif_pos (by omega)]
    exact hw _ _ (by simp only [h1, h2]; omega) j
  · intro j i k c h0 hi hc
    obtain ⟨h1, h2⟩ := hq c k i hi hc
    rw [hU, dif_neg (by omega), dif_neg (by omega)]

/-- The arranged weights of layer one's gates. -/
def prep1g (w : FVec Ideal S195x128 .f32) : FVec Ideal S128x216 .bf16 :=
  truncf .bf16 (transpose S128x216 [1, 0] (shapeCast S216x128 (transpose S3x72x128 [1, 0, 2]
    (concatenate S72x3x128 0 [⟨S64x3x128, extractStridedSlice S64x3x128 ![1, 0, 0] (shapeCast S65x3x128 w shapeCasts_S195x128_S65x3x128) slices_S65x3x128_S64x3x128_1_0_0⟩,
      ⟨S8x3x128, concatenate S8x3x128 0 [⟨S1x3x128, extractStridedSlice S1x3x128 ![0, 0, 0] (shapeCast S65x3x128 w shapeCasts_S195x128_S65x3x128) slices_S65x3x128_S1x3x128_0_0_0⟩,
        ⟨S0x3x128, extractStridedSlice S0x3x128 ![65, 0, 0] (shapeCast S65x3x128 w shapeCasts_S195x128_S65x3x128) slices_S65x3x128_S0x3x128_65_0_0⟩,
        ⟨S7x3x128, broadcastInDim S7x3x128 ![] bcast_S_S7x3x128 (constant S_ .f32 0x00000000#32)⟩] concatenates_S1x3x128_S0x3x128_S7x3x128_S8x3x128_d0⟩] concatenates_S64x3x128_S8x3x128_S72x3x128_d0)
    transposes_S72x3x128_S3x72x128_1_0_2) shapeCasts_S3x72x128_S216x128) transposes_S216x128_S128x216_1_0) bitsLt_bf16_f32

/-- The first cell's prepared gate weights: hidden rows, the input row, then zeros, in each Chebyshev term's columns. -/
theorem prep1g_raw (w : FVec Ideal S195x128 .f32) (j : Fin 128) (c : Fin 216) :
    prep1g w (ix2 j c) = if h : (c : ℕ) % 72 < 64 then w (ix2 ⟨(1 + c % 72) * 3 + c / 72, by omega⟩ j)
      else if h' : (c : ℕ) % 72 - 64 < 1 then w (ix2 ⟨(c % 72 - 64) * 3 + c / 72, by omega⟩ j) else 0 := by
  pointwise [prep1g]
  split_ifs
  all_goals first
    | rfl
    | omega

/-- They are arranged as the kernel expects them. -/
theorem prep1g_tiled (w : FVec Ideal S195x128 .f32) :
    Tiled 1 72 128 216 (fun j c => prep1g w (ix2 j c)) (fun r j => w (ix2 ⟨r.1, r.2⟩ j)) :=
  tiled_of_raw (d := 1) (F := 72) (by decide) (by decide) w _ (fun j c => prep1g_raw w j c)

/-- The arranged weights of layer one's candidate. -/
def prep1c (w : FVec Ideal S195x64 .f32) : FVec Ideal S64x216 .bf16 :=
  truncf .bf16 (transpose S64x216 [1, 0] (shapeCast S216x64 (transpose S3x72x64 [1, 0, 2]
    (concatenate S72x3x64 0 [⟨S64x3x64, extractStridedSlice S64x3x64 ![1, 0, 0] (shapeCast S65x3x64 w shapeCasts_S195x64_S65x3x64) slices_S65x3x64_S64x3x64_1_0_0⟩,
      ⟨S8x3x64, concatenate S8x3x64 0 [⟨S1x3x64, extractStridedSlice S1x3x64 ![0, 0, 0] (shapeCast S65x3x64 w shapeCasts_S195x64_S65x3x64) slices_S65x3x64_S1x3x64_0_0_0⟩,
        ⟨S0x3x64, extractStridedSlice S0x3x64 ![65, 0, 0] (shapeCast S65x3x64 w shapeCasts_S195x64_S65x3x64) slices_S65x3x64_S0x3x64_65_0_0⟩,
        ⟨S7x3x64, broadcastInDim S7x3x64 ![] bcast_S_S7x3x64 (constant S_ .f32 0x00000000#32)⟩] concatenates_S1x3x64_S0x3x64_S7x3x64_S8x3x64_d0⟩] concatenates_S64x3x64_S8x3x64_S72x3x64_d0)
    transposes_S72x3x64_S3x72x64_1_0_2) shapeCasts_S3x72x64_S216x64) transposes_S216x64_S64x216_1_0) bitsLt_bf16_f32

/-- The first cell's prepared candidate weights: hidden rows, the input row, then zeros, in each Chebyshev term's columns. -/
theorem prep1c_raw (w : FVec Ideal S195x64 .f32) (j : Fin 64) (c : Fin 216) :
    prep1c w (ix2 j c) = if h : (c : ℕ) % 72 < 64 then w (ix2 ⟨(1 + c % 72) * 3 + c / 72, by omega⟩ j)
      else if h' : (c : ℕ) % 72 - 64 < 1 then w (ix2 ⟨(c % 72 - 64) * 3 + c / 72, by omega⟩ j) else 0 := by
  pointwise [prep1c]
  split_ifs
  all_goals first
    | rfl
    | omega

/-- They are arranged as the kernel expects them. -/
theorem prep1c_tiled (w : FVec Ideal S195x64 .f32) :
    Tiled 1 72 64 216 (fun j c => prep1c w (ix2 j c)) (fun r j => w (ix2 ⟨r.1, r.2⟩ j)) :=
  tiled_of_raw (d := 1) (F := 72) (by decide) (by decide) w _ (fun j c => prep1c_raw w j c)

/-- The arranged weights of layer two's gates. -/
def prep2g (w : FVec Ideal S384x128 .f32) : FVec Ideal S128x384 .bf16 :=
  truncf .bf16 (transpose S128x384 [1, 0] (shapeCast S384x128 (transpose S3x128x128 [1, 0, 2]
    (concatenate S128x3x128 0 [⟨S64x3x128, extractStridedSlice S64x3x128 ![64, 0, 0] (shapeCast S128x3x128 w shapeCasts_S384x128_S128x3x128) slices_S128x3x128_S64x3x128_64_0_0⟩,
      ⟨S64x3x128, concatenate S64x3x128 0 [⟨S64x3x128, extractStridedSlice S64x3x128 ![0, 0, 0] (shapeCast S128x3x128 w shapeCasts_S384x128_S128x3x128) slices_S128x3x128_S64x3x128_0_0_0⟩,
        ⟨S0x3x128, extractStridedSlice S0x3x128 ![128, 0, 0] (shapeCast S128x3x128 w shapeCasts_S384x128_S128x3x128) slices_S128x3x128_S0x3x128_128_0_0⟩,
        ⟨S0x3x128, broadcastInDim S0x3x128 ![] bcast_S_S0x3x128 (constant S_ .f32 0x00000000#32)⟩] concatenates_S64x3x128_S0x3x128_S0x3x128_S64x3x128_d0⟩] concatenates_S64x3x128_S64x3x128_S128x3x128_d0)
    transposes_S128x3x128_S3x128x128_1_0_2) shapeCasts_S3x128x128_S384x128) transposes_S384x128_S128x384_1_0) bitsLt_bf16_f32

/-- The second cell's prepared gate weights: hidden rows, then input rows, in each Chebyshev term's columns. -/
theorem prep2g_raw (w : FVec Ideal S384x128 .f32) (j : Fin 128) (c : Fin 384) :
    prep2g w (ix2 j c) = if h : (c : ℕ) % 128 < 64 then w (ix2 ⟨(64 + c % 128) * 3 + c / 128, by omega⟩ j)
      else if h' : (c : ℕ) % 128 - 64 < 64 then w (ix2 ⟨(c % 128 - 64) * 3 + c / 128, by omega⟩ j) else 0 := by
  pointwise [prep2g]
  split_ifs
  all_goals first
    | rfl
    | omega

/-- They are arranged as the kernel expects them. -/
theorem prep2g_tiled (w : FVec Ideal S384x128 .f32) :
    Tiled 64 128 128 384 (fun j c => prep2g w (ix2 j c)) (fun r j => w (ix2 ⟨r.1, r.2⟩ j)) :=
  tiled_of_raw (d := 64) (F := 128) (by decide) (by decide) w _ (fun j c => prep2g_raw w j c)

/-- The arranged weights of layer two's candidate. -/
def prep2c (w : FVec Ideal S384x64 .f32) : FVec Ideal S64x384 .bf16 :=
  truncf .bf16 (transpose S64x384 [1, 0] (shapeCast S384x64 (transpose S3x128x64 [1, 0, 2]
    (concatenate S128x3x64 0 [⟨S64x3x64, extractStridedSlice S64x3x64 ![64, 0, 0] (shapeCast S128x3x64 w shapeCasts_S384x64_S128x3x64) slices_S128x3x64_S64x3x64_64_0_0⟩,
      ⟨S64x3x64, concatenate S64x3x64 0 [⟨S64x3x64, extractStridedSlice S64x3x64 ![0, 0, 0] (shapeCast S128x3x64 w shapeCasts_S384x64_S128x3x64) slices_S128x3x64_S64x3x64_0_0_0⟩,
        ⟨S0x3x64, extractStridedSlice S0x3x64 ![128, 0, 0] (shapeCast S128x3x64 w shapeCasts_S384x64_S128x3x64) slices_S128x3x64_S0x3x64_128_0_0⟩,
        ⟨S0x3x64, broadcastInDim S0x3x64 ![] bcast_S_S0x3x64 (constant S_ .f32 0x00000000#32)⟩] concatenates_S64x3x64_S0x3x64_S0x3x64_S64x3x64_d0⟩] concatenates_S64x3x64_S64x3x64_S128x3x64_d0)
    transposes_S128x3x64_S3x128x64_1_0_2) shapeCasts_S3x128x64_S384x64) transposes_S384x64_S64x384_1_0) bitsLt_bf16_f32

/-- The second cell's prepared candidate weights: hidden rows, then input rows, in each Chebyshev term's columns. -/
theorem prep2c_raw (w : FVec Ideal S384x64 .f32) (j : Fin 64) (c : Fin 384) :
    prep2c w (ix2 j c) = if h : (c : ℕ) % 128 < 64 then w (ix2 ⟨(64 + c % 128) * 3 + c / 128, by omega⟩ j)
      else if h' : (c : ℕ) % 128 - 64 < 64 then w (ix2 ⟨(c % 128 - 64) * 3 + c / 128, by omega⟩ j) else 0 := by
  pointwise [prep2c]
  split_ifs
  all_goals first
    | rfl
    | omega

/-- They are arranged as the kernel expects them. -/
theorem prep2c_tiled (w : FVec Ideal S384x64 .f32) :
    Tiled 64 128 64 384 (fun j c => prep2c w (ix2 j c)) (fun r j => w (ix2 ⟨r.1, r.2⟩ j)) :=
  tiled_of_raw (d := 64) (F := 128) (by decide) (by decide) w _ (fun j c => prep2c_raw w j c)

/-- Every input window is its whole array at every grid point. -/
theorem idx_in : ∀ t : Fin cfg0.N, win0_0.index t = ![0, 0] ∧ win0_1.index t = ![0, 0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] :=
  (by decide +kernel : ∀ t : Fin grid0.N, _)

variable (m : (ℓ : Loc nD τ sig) → Buf (Elt Ideal) ℓ) (c : Dev nD)

/-- The block of the graph. -/
theorem blk0 (t : Fin cfg0.N) : (iblk m c 0 t : Vec Ideal S512x512 .bf16) = prepS (m ((c : Thread nD τ).loc main_arg2)) :=
  (show (iblk m c 0 t : Vec Ideal S512x512 .bf16) = V m c main_v2 by funext i; blk_ext [iblk, idx_in t]).trans
    (by unfold_abbrev_sides; after_results; rfl)

/-- The block of the initial states. -/
theorem blk1 (t : Fin cfg0.N) : (iblk m c 1 t : Vec Ideal S2x64x4096 .f32) = prepH (m ((c : Thread nD τ).loc main_arg1)) :=
  (show (iblk m c 1 t : Vec Ideal S2x64x4096 .f32) = V m c main_v5 by funext i; blk_ext [iblk, idx_in t]).trans
    (by unfold_abbrev_sides; after_results; rfl)

/-- The block of layer one's gate weights. -/
theorem blk2 (t : Fin cfg0.N) : (iblk m c 2 t : Vec Ideal S128x216 .bf16) = prep1g (m ((c : Thread nD τ).loc main_arg3)) :=
  (show (iblk m c 2 t : Vec Ideal S128x216 .bf16) = V m c main_v16 by funext i; blk_ext [iblk, idx_in t]).trans
    (by unfold_abbrev_sides; after_results; rfl)

/-- The block of layer one's gate bias. -/
theorem blk3 (t : Fin cfg0.N) : (iblk m c 3 t : Vec Ideal S128x1 .f32) = shapeCast S128x1 (α := Ideal .f32) (m ((c : Thread nD τ).loc main_arg4)) shapeCasts_S128_S128x1 :=
  (show (iblk m c 3 t : Vec Ideal S128x1 .f32) = V m c main_v50 by funext i; blk_ext [iblk, idx_in t]).trans
    (by unfold_abbrev_sides; after_results; rfl)

/-- The block of layer one's candidate weights. -/
theorem blk4 (t : Fin cfg0.N) : (iblk m c 4 t : Vec Ideal S64x216 .bf16) = prep1c (m ((c : Thread nD τ).loc main_arg5)) :=
  (show (iblk m c 4 t : Vec Ideal S64x216 .bf16) = V m c main_v27 by funext i; blk_ext [iblk, idx_in t]).trans
    (by unfold_abbrev_sides; after_results; rfl)

/-- The block of layer one's candidate bias. -/
theorem blk5 (t : Fin cfg0.N) : (iblk m c 5 t : Vec Ideal S64x1 .f32) = shapeCast S64x1 (α := Ideal .f32) (m ((c : Thread nD τ).loc main_arg6)) shapeCasts_S64_S64x1 :=
  (show (iblk m c 5 t : Vec Ideal S64x1 .f32) = V m c main_v51 by funext i; blk_ext [iblk, idx_in t]).trans
    (by unfold_abbrev_sides; after_results; rfl)

/-- The block of layer two's gate weights. -/
theorem blk6 (t : Fin cfg0.N) : (iblk m c 6 t : Vec Ideal S128x384 .bf16) = prep2g (m ((c : Thread nD τ).loc main_arg7)) :=
  (show (iblk m c 6 t : Vec Ideal S128x384 .bf16) = V m c main_v38 by funext i; blk_ext [iblk, idx_in t]).trans
    (by unfold_abbrev_sides; after_results; rfl)

/-- The block of layer two's gate bias. -/
theorem blk7 (t : Fin cfg0.N) : (iblk m c 7 t : Vec Ideal S128x1 .f32) = shapeCast S128x1 (α := Ideal .f32) (m ((c : Thread nD τ).loc main_arg8)) shapeCasts_S128_S128x1 :=
  (show (iblk m c 7 t : Vec Ideal S128x1 .f32) = V m c main_v52 by funext i; blk_ext [iblk, idx_in t]).trans
    (by unfold_abbrev_sides; after_results; rfl)

/-- The block of layer two's candidate weights. -/
theorem blk8 (t : Fin cfg0.N) : (iblk m c 8 t : Vec Ideal S64x384 .bf16) = prep2c (m ((c : Thread nD τ).loc main_arg9)) :=
  (show (iblk m c 8 t : Vec Ideal S64x384 .bf16) = V m c main_v49 by funext i; blk_ext [iblk, idx_in t]).trans
    (by unfold_abbrev_sides; after_results; rfl)

/-- The block of layer two's candidate bias. -/
theorem blk9 (t : Fin cfg0.N) : (iblk m c 9 t : Vec Ideal S64x1 .f32) = shapeCast S64x1 (α := Ideal .f32) (m ((c : Thread nD τ).loc main_arg10)) shapeCasts_S64_S64x1 :=
  (show (iblk m c 9 t : Vec Ideal S64x1 .f32) = V m c main_v53 by funext i; blk_ext [iblk, idx_in t]).trans
    (by unfold_abbrev_sides; after_results; rfl)

/-- The block of the projection's weights. -/
theorem blk10 (t : Fin cfg0.N) : (iblk m c 10 t : Vec Ideal S1x64 .f32) = transpose S1x64 [1, 0] (α := Ideal .f32) (m ((c : Thread nD τ).loc main_arg11)) transposes_S64x1_S1x64_1_0 :=
  (show (iblk m c 10 t : Vec Ideal S1x64 .f32) = V m c main_v54 by funext i; blk_ext [iblk, idx_in t]).trans
    (by unfold_abbrev_sides; after_results)

/-- The block of the projection's bias. -/
theorem blk11 (t : Fin cfg0.N) : (iblk m c 11 t : Vec Ideal S1x1 .f32) = shapeCast S1x1 (α := Ideal .f32) (m ((c : Thread nD τ).loc main_arg12)) shapeCasts_S1_S1x1 :=
  (show (iblk m c 11 t : Vec Ideal S1x1 .f32) = V m c main_v55 by funext i; blk_ext [iblk, idx_in t]).trans
    (by unfold_abbrev_sides; after_results; rfl)

end Cert.KernelIdeal.Vec

end
-- ==== Proof.KerRun.lean ====
/- The kernel's result array: row `t` holds the plain model's signal after `t + 1` time steps. -/
module

public import proofs.«01_k».proof.Proof.KerHost

@[expose] public section

set_option maxRecDepth 16384

noncomputable section

namespace Cert.KernelIdeal.Vec

open Cert.KernelIdeal Cert.KernelIdeal.Gen Idealize.ShloMosaic Idealize.ShloMosaic.TcCoe Idealize.SL.Sem
open Cert.Model

/-- What the kernel carries, of one batch. -/
def stOf (u : Carry) (b : Fin 8) : St := ⟨rd u.cur b 0, rd u.h0 b, rd u.h1 b⟩

/-- The fixed blocks hold the parameters `P`. -/
structure Holds (B : Blocks) (P : Par) : Prop where
  s : ∀ k n, B.s (ix2 k n) = P.S n k
  w1g : Tiled 1 72 128 216 (fun j c => B.w1g (ix2 j c)) P.W1.wg
  b1g : ∀ j, B.b1g (ix2 j 0) = P.W1.bg j
  w1c : Tiled 1 72 64 216 (fun j c => B.w1c (ix2 j c)) P.W1.wc
  b1c : ∀ j, B.b1c (ix2 j 0) = P.W1.bc j
  w2g : Tiled 64 128 128 384 (fun j c => B.w2g (ix2 j c)) P.W2.wg
  b2g : ∀ j, B.b2g (ix2 j 0) = P.W2.bg j
  w2c : Tiled 64 128 64 384 (fun j c => B.w2c (ix2 j c)) P.W2.wc
  b2c : ∀ j, B.b2c (ix2 j 0) = P.W2.bc j
  wp : ∀ i, B.wp (ix2 0 i) = P.wp i
  bp : B.bp (ix2 0 0) = P.bp

/-- Row 0 of the input buffer after a store of it. -/
theorem putRow_at (p : FVec Ideal S1x4096 .f32) (x : FVec Ideal S8x4096 .f32) (b : Fin 8) (n : Fin 512) :
    rd (putRow p x) b 0 n = p (ix2 0 (col b n)) := by
  unfold rd putRow
  exact if_pos rfl

/-- The first row of a result block, -/
theorem outs_fst (p q : FVec Ideal S1x4096 .f32) (r : Fin 4096) : outs p q (ix3 0 0 r) = p (ix2 0 r) := by
  unfold outs
  exact if_pos rfl

/-- and its second row. -/
theorem outs_snd (p q : FVec Ideal S1x4096 .f32) (r : Fin 4096) : outs p q (ix3 1 0 r) = q (ix2 0 r) := by
  unfold outs
  exact if_neg (by decide : ¬ (1 : ℕ) = 0)

/-- One time step of the kernel is one time step of the plain model, in every batch. -/
theorem stepK_at (B : Blocks) (P : Par) (hB : Holds B P) (u : Carry) (b : Fin 8) : stOf (stepK B u) b = step P (stOf u b) := by
  have g0 : rd (cell72 B.s B.w1g B.b1g B.w1c B.b1c u.cur u.h0) b = cell P.S P.W1 (fun _ => rd u.cur b 0) (rd u.h0 b) := by
    rw [cell72_at B.s P.S hB.s P.W1 _ _ _ _ hB.w1g hB.b1g hB.w1c hB.b1c]
    refine congrArg (fun x => cell P.S P.W1 x (rd u.h0 b)) (funext fun i => ?_)
    exact congrArg (rd u.cur b) (Fin.ext (by have := i.2; show (i : ℕ) = 0; omega))
  have g1 : rd (cell128 B.s B.w2g B.b2g B.w2c B.b2c (cell72 B.s B.w1g B.b1g B.w1c B.b1c u.cur u.h0) u.h1) b
      = cell P.S P.W2 (cell P.S P.W1 (fun _ => rd u.cur b 0) (rd u.h0 b)) (rd u.h1 b) := by
    rw [cell128_at B.s P.S hB.s P.W2 _ _ _ _ hB.w2g hB.b2g hB.w2c hB.b2c, g0]
  unfold stOf step stepK
  dsimp only
  rw [g1, g0]
  congr 1
  funext n
  rw [putRow_at]
  exact (projK_at B.wp B.bp _ b n P.wp P.bp hB.wp hB.bp).trans (by rw [g1])

/-- The signal that a time step stores, in the plain model's terms. -/
theorem signal_at (B : Blocks) (P : Par) (hB : Holds B P) (u : Carry) (b : Fin 8) (n : Fin 512) :
    projK B.wp B.bp (stepK B u).h1 (ix2 0 (col b n)) = (step P (stOf u b)).cur n := by
  rw [← stepK_at B P hB u b]
  exact (putRow_at _ u.cur b n).symm

variable (m : (ℓ : Loc nD τ sig) → Buf (Elt Ideal) ℓ) (c : Dev nD)

/-- The parameters, out of the arguments. -/
def parK : Par :=
  par (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))

/-- The initial state of batch `b`, out of the arguments. -/
def initK (b : Fin 8) : St := init (m ((c : Thread nD τ).loc main_arg1)) b

/-- A bias of 128 entries as a column keeps its entries. -/
theorem bias128_at (v : FVec Ideal S128 .f32) (j : Fin 128) : (shapeCast S128x1 (α := Ideal .f32) v shapeCasts_S128_S128x1) (ix2 j 0) = v (ix1 j) := by
  pointwise []

/-- A bias of 64 entries as a column keeps its entries. -/
theorem bias64_at (v : FVec Ideal S64 .f32) (j : Fin 64) : (shapeCast S64x1 (α := Ideal .f32) v shapeCasts_S64_S64x1) (ix2 j 0) = v (ix1 j) := by
  pointwise []

/-- The projection's bias as a one-entry matrix keeps its entry. -/
theorem bias1_at (v : FVec Ideal S1 .f32) : (shapeCast S1x1 (α := Ideal .f32) v shapeCasts_S1_S1x1) (ix2 0 0) = v (ix1 0) := by
  pointwise []

/-- The projection's transposed weights keep their entries. -/
theorem weights_at (w : FVec Ideal S64x1 .f32) (i : Fin 64) : (transpose S1x64 [1, 0] (α := Ideal .f32) w transposes_S64x1_S1x64_1_0) (ix2 0 i) = w (ix2 i 0) := by
  pointwise []

/-- The fixed blocks that the host code prepares from the argument arrays. -/
def blocksOf (s : FVec Ideal S1x512x512 .f32) (w1g : FVec Ideal S195x128 .f32) (b1g : FVec Ideal S128 .f32)
    (w1c : FVec Ideal S195x64 .f32) (b1c : FVec Ideal S64 .f32) (w2g : FVec Ideal S384x128 .f32) (b2g : FVec Ideal S128 .f32)
    (w2c : FVec Ideal S384x64 .f32) (b2c : FVec Ideal S64 .f32) (wp : FVec Ideal S64x1 .f32) (bp : FVec Ideal S1 .f32) : Blocks :=
  ⟨prepS s, prep1g w1g, shapeCast S128x1 b1g shapeCasts_S128_S128x1, prep1c w1c, shapeCast S64x1 b1c shapeCasts_S64_S64x1,
    prep2g w2g, shapeCast S128x1 b2g shapeCasts_S128_S128x1, prep2c w2c, shapeCast S64x1 b2c shapeCasts_S64_S64x1,
    transpose S1x64 [1, 0] wp transposes_S64x1_S1x64_1_0, shapeCast S1x1 bp shapeCasts_S1_S1x1⟩

/-- They hold the parameters. -/
theorem blocksOf_holds (s : FVec Ideal S1x512x512 .f32) (w1g : FVec Ideal S195x128 .f32) (b1g : FVec Ideal S128 .f32)
    (w1c : FVec Ideal S195x64 .f32) (b1c : FVec Ideal S64 .f32) (w2g : FVec Ideal S384x128 .f32) (b2g : FVec Ideal S128 .f32)
    (w2c : FVec Ideal S384x64 .f32) (b2c : FVec Ideal S64 .f32) (wp : FVec Ideal S64x1 .f32) (bp : FVec Ideal S1 .f32) :
    Holds (blocksOf s w1g b1g w1c b1c w2g b2g w2c b2c wp bp) (par s w1g b1g w1c b1c w2g b2g w2c b2c wp bp) :=
  ⟨prepS_at s, prep1g_tiled w1g, bias128_at b1g, prep1c_tiled w1c, bias64_at b1c, prep2g_tiled w2g, bias128_at b2g, prep2c_tiled w2c,
    bias64_at b2c, weights_at wp, bias1_at bp⟩

/-- Every grid point's blocks are these. -/
theorem blocks_eq (t : Fin cfg0.N) : blocks m c t =
    blocksOf (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) := by
  unfold blocks blocksOf
  rw [blk0, blk2, blk3, blk4, blk5, blk6, blk7, blk8, blk9, blk10, blk11]

/-- A grid point's blocks hold the parameters. -/
theorem holds (t : Fin cfg0.N) : Holds (blocks m c t) (parK m c) := by
  rw [blocks_eq]
  exact blocksOf_holds _ _ _ _ _ _ _ _ _ _ _

/-- The prepared initial states and the blank input buffer are the initial state. -/
theorem start_prep (h : FVec Ideal S2x8x32768 .f32) (b : Fin 8) : stOf ⟨blank, start 0 (prepH h), start 1 (prepH h)⟩ b = init h b := by
  have h0 : (rd blank b 0 : Fin 512 → EReal) = fun _ => 0 := by
    funext n
    unfold rd
    pointwise [blank]
  have h1 (l : Fin 2) : rd (start l (prepH h)) b = fun (i : Fin 64) (n : Fin 512) => h (ix3 l b ⟨n * 64 + i, by omega⟩) := by
    funext i n
    show prepH h (ix3 l i (col b n)) = _
    rw [prepH_at]
  unfold stOf init
  exact congr (congr (congrArg St.mk h0) (h1 0)) (h1 1)

/-- The first grid point starts from the initial state. -/
theorem start_init (t : Fin cfg0.N) (b : Fin 8) : stOf ⟨blank, start 0 (iblk m c 1 t), start 1 (iblk m c 1 t)⟩ b = initK m c b := by
  exact (congrArg (fun x : FVec Ideal S2x64x4096 .f32 => stOf ⟨blank, start 0 x, start 1 x⟩ b) (blk1 m c t)).trans (start_prep _ b)

/-- Two time steps from a carry that holds the state after `k` of them. -/
theorem point_at (t : Fin cfg0.N) (u : Carry) (k : ℕ) (hu : ∀ b, stOf u b = run (parK m c) (initK m c b) k) (b : Fin 8) (n : Fin 512) :
    (pointK (blocks m c t) u).1 (ix3 0 0 (col b n)) = (run (parK m c) (initK m c b) (k + 1)).cur n
    ∧ (pointK (blocks m c t) u).1 (ix3 1 0 (col b n)) = (run (parK m c) (initK m c b) (k + 2)).cur n
    ∧ stOf ⟨(pointK (blocks m c t) u).2.2.2, (pointK (blocks m c t) u).2.1, (pointK (blocks m c t) u).2.2.1⟩ b = run (parK m c) (initK m c b) (k + 2) := by
  have s1 (b : Fin 8) : stOf (stepK (blocks m c t) u) b = run (parK m c) (initK m c b) (k + 1) := by
    rw [stepK_at _ _ (holds m c t), hu, run_succ]
  have s2 (b : Fin 8) : stOf (stepK (blocks m c t) (stepK (blocks m c t) u)) b = run (parK m c) (initK m c b) (k + 2) := by
    rw [stepK_at _ _ (holds m c t), s1, ← run_succ]
  refine ⟨?_, ?_, s2 b⟩
  · refine (outs_fst (projK (blocks m c t).wp (blocks m c t).bp (stepK (blocks m c t) u).h1) (projK (blocks m c t).wp (blocks m c t).bp (stepK (blocks m c t) (stepK (blocks m c t) u)).h1) _).trans ?_
    exact ((signal_at _ _ (holds m c t) u b n).trans (by rw [hu, run_succ]))
  · refine (outs_snd (projK (blocks m c t).wp (blocks m c t).bp (stepK (blocks m c t) u).h1) (projK (blocks m c t).wp (blocks m c t).bp (stepK (blocks m c t) (stepK (blocks m c t) u)).h1) _).trans ?_
    exact ((signal_at _ _ (holds m c t) (stepK (blocks m c t) u) b n).trans (by rw [s1, ← run_succ]))

/-- The fold over the grid points: point `t` leaves the signals after `2 t + 1` and `2 t + 2` time steps, and carries the state after
    `2 t + 2`. -/
theorem fold_at (t : ℕ) (ht : 0 + t < cfg0.N) (b : Fin 8) (n : Fin 512) :
    let A := Pipeline.accAt (fun n h => Cert.KernelIdeal.Value.stAt0 m c n h Cert.KernelIdeal.Value.junk0) (Cert.KernelIdeal.Value.stAt0 m c) 0 t ht
    A.1 (ix3 0 0 (col b n)) = (run (parK m c) (initK m c b) (2 * t + 1)).cur n
    ∧ A.1 (ix3 1 0 (col b n)) = (run (parK m c) (initK m c b) (2 * t + 2)).cur n
    ∧ stOf ⟨A.2.2.2, A.2.1, A.2.2.1⟩ b = run (parK m c) (initK m c b) (2 * t + 2) := by
  induction t generalizing b n with
  | zero =>
    dsimp only
    rw [show Pipeline.accAt (fun n h => Cert.KernelIdeal.Value.stAt0 m c n h Cert.KernelIdeal.Value.junk0) (Cert.KernelIdeal.Value.stAt0 m c) 0 0 ht
      = pointK (blocks m c ⟨0, ht⟩) ⟨blank, start 0 (iblk m c 1 ⟨0, ht⟩), start 1 (iblk m c 1 ⟨0, ht⟩)⟩ from pointA m c ⟨0, ht⟩ rfl _]
    exact point_at m c _ _ 0 (fun b => start_init m c _ b) b n
  | succ t ih =>
    dsimp only
    have hN := lt_of_lt_of_eq ht (show cfg0.N = 3 from N_0)
    have ih' := ih (by omega)
    rw [Pipeline.accAt_succ]
    have e := pointB m c ⟨0 + (t + 1), ht⟩ (by show ¬ (0 + (t + 1)) % 3 = 0; omega)
    rw [e]
    exact point_at m c _ _ (2 * t + 2) (fun b => (ih' b n).2.2) b n

/-- The kernel's array, at time step `t` and column `q`. -/
theorem G12_at (t : Fin 6) (z : Fin 1) (q : Fin 4096) :
    (Cert.KernelIdeal.Value.G12 m c : FVec Ideal S6x1x4096 .f32) (ix3 t z q)
      = (run (parK m c) (initK m c ⟨q / 512, by omega⟩) (t + 1)).cur ⟨q % 512, by omega⟩ := by
  obtain rfl : z = 0 := Subsingleton.elim _ _
  have hp : Cert.KernelIdeal.Value.pt12Of (ix3 t 0 q) = (t : ℕ) / 2 := by
    show 1 * ((t : ℕ) / 2 - 0) + 1 * (0 / 1 - 0) + 1 * ((q : ℕ) / 4096 - 0) = (t : ℕ) / 2
    omega
  have hN : cfg0.N = 3 := N_0
  have hl (r : Fin 2) (hr : (t : ℕ) % 2 = r) : Cert.KernelIdeal.Value.loc12Of (ix3 t 0 q) = ix3 r 0 (col ⟨q / 512, by omega⟩ ⟨q % 512, by omega⟩) := by
    funext a; apply Fin.ext
    fin_cases a
    · exact hr
    · rfl
    · show (q : ℕ) % 4096 = (q : ℕ) / 512 * 512 + (q : ℕ) % 512; omega
  have hf := fold_at m c ((t : ℕ) / 2) (by omega) ⟨q / 512, by omega⟩ ⟨q % 512, by omega⟩
  refine (dif_pos (by rw [hp]; omega)).trans ?_
  rw [Cert.KernelIdeal.Value.fold0_congr m c _ _ ((t : ℕ) / 2) (by omega) hp]
  by_cases h : (t : ℕ) % 2 = 0
  · rw [hl 0 h]
    refine hf.1.trans ?_
    rw [show 2 * ((t : ℕ) / 2) + 1 = t + 1 by omega]
  · rw [hl 1 (by show (t : ℕ) % 2 = 1; omega)]
    refine hf.2.1.trans ?_
    rw [show 2 * ((t : ℕ) / 2) + 2 = t + 1 by omega]

end Cert.KernelIdeal.Vec

end
-- ==== Proof.RefDefs.lean ====
/- The reference's operations, one definition per array of the printed program that a later one reads: the gathered
   signals, their Chebyshev terms, the convolution, the gates and the new state, for both layers. -/
module

public import proofs.«01_k».proof.Proof.Gen.ReferenceIdeal
public import proofs.«01_k».proof.Proof.Model

@[expose] public section

set_option maxRecDepth 16384

noncomputable section

namespace Cert.ReferenceIdeal.Vec

open Cert.ReferenceIdeal Cert.ReferenceIdeal.Gen Idealize.ShloMosaic Idealize.ShloMosaic.TcCoe Idealize.SL.Sem

/-- Input and hidden features side by side, node-major (layer one). -/
def x0A (x : FVec Ideal S8x512 .f32) (h : FVec Ideal S8x32768 .f32) : FVec Ideal S512x520 .f32 :=
  shapeCast _ (transpose S512x65x8 [1, 2, 0] (concatenate S8x512x65 2 [⟨S8x512x1, (shapeCast _ x shapeCasts_S8x512_S8x512x1)⟩, ⟨S8x512x64, (shapeCast _ h shapeCasts_S8x32768_S8x512x64)⟩] concatenates_S8x512x1_S8x512x64_S8x512x65_d2) transposes_S8x512x65_S512x65x8_1_2_0) shapeCasts_S512x65x8_S512x520

/-- Input and hidden features side by side, node-major (layer two). -/
def x0B (x : FVec Ideal S8x32768 .f32) (h : FVec Ideal S8x32768 .f32) : FVec Ideal S512x1024 .f32 :=
  shapeCast _ (transpose S512x128x8 [1, 2, 0] (concatenate S8x512x128 2 [⟨S8x512x64, (shapeCast _ x shapeCasts_S8x32768_S8x512x64)⟩, ⟨S8x512x64, (shapeCast _ h shapeCasts_S8x32768_S8x512x64)⟩] concatenates_S8x512x64_S8x512x64_S8x512x128_d2) transposes_S8x512x128_S512x128x8_1_2_0) shapeCasts_S512x128x8_S512x1024

/-- The graph as a matrix. -/
def sup (s : FVec Ideal S1x512x512 .f32) : FVec Ideal S512x512 .f32 := shapeCast _ s shapeCasts_S1x512x512_S512x512

/-- One diffusion of the gathered signals (layer one). -/
def advA (s : FVec Ideal S512x512 .f32) (x : FVec Ideal S512x520 .f32) : FVec Ideal S512x520 .f32 :=
  Host.dotGeneral (φ₁ := .f32) (φ₂ := .f32) dot_S512x512_S512x520_S512x520_1_0_0_1_n_n none s x

/-- One diffusion of the gathered signals (layer two). -/
def advB (s : FVec Ideal S512x512 .f32) (x : FVec Ideal S512x1024 .f32) : FVec Ideal S512x1024 .f32 :=
  Host.dotGeneral (φ₁ := .f32) (φ₂ := .f32) dot_S512x512_S512x1024_S512x1024_1_0_0_1_n_n none s x

/-- Twice the diffusion of `y` less `x` (layer one). -/
def chebA (s : FVec Ideal S512x512 .f32) (x y : FVec Ideal S512x520 .f32) : FVec Ideal S512x520 .f32 :=
  subf (mulf (broadcastInDim S512x520 ![] bcast_S_S512x520 (constant S_ .f32 0x40000000#32)) (advA s y)) x

/-- Twice the diffusion of `y` less `x` (layer two). -/
def chebB (s : FVec Ideal S512x512 .f32) (x y : FVec Ideal S512x1024 .f32) : FVec Ideal S512x1024 .f32 :=
  subf (mulf (broadcastInDim S512x1024 ![] bcast_S_S512x1024 (constant S_ .f32 0x40000000#32)) (advB s y)) x

/-- The three terms as one matrix, a row per batch and node (layer one). -/
def stackA (x y z : FVec Ideal S512x520 .f32) : FVec Ideal S4096x195 .f32 :=
  shapeCast _ (transpose S8x512x65x3 [3, 1, 2, 0] (shapeCast _ ((concatenate S3x512x520 0 [⟨S1x512x520, ((broadcastInDim S1x512x520 ![1, 2] bcast_S512x520_S1x512x520_1_2 x) : FVec Ideal S1x512x520 .f32)⟩, ⟨S1x512x520, ((broadcastInDim S1x512x520 ![1, 2] bcast_S512x520_S1x512x520_1_2 y) : FVec Ideal S1x512x520 .f32)⟩, ⟨S1x512x520, ((broadcastInDim S1x512x520 ![1, 2] bcast_S512x520_S1x512x520_1_2 z) : FVec Ideal S1x512x520 .f32)⟩] concatenates_S1x512x520_S1x512x520_S1x512x520_S3x512x520_d0 : FVec Ideal S3x512x520 .f32)) shapeCasts_S3x512x520_S3x512x65x8) transposes_S3x512x65x8_S8x512x65x3_3_1_2_0) shapeCasts_S8x512x65x3_S4096x195

/-- The three terms as one matrix, a row per batch and node (layer two). -/
def stackB (x y z : FVec Ideal S512x1024 .f32) : FVec Ideal S4096x384 .f32 :=
  shapeCast _ (transpose S8x512x128x3 [3, 1, 2, 0] (shapeCast _ ((concatenate S3x512x1024 0 [⟨S1x512x1024, ((broadcastInDim S1x512x1024 ![1, 2] bcast_S512x1024_S1x512x1024_1_2 x) : FVec Ideal S1x512x1024 .f32)⟩, ⟨S1x512x1024, ((broadcastInDim S1x512x1024 ![1, 2] bcast_S512x1024_S1x512x1024_1_2 y) : FVec Ideal S1x512x1024 .f32)⟩, ⟨S1x512x1024, ((broadcastInDim S1x512x1024 ![1, 2] bcast_S512x1024_S1x512x1024_1_2 z) : FVec Ideal S1x512x1024 .f32)⟩] concatenates_S1x512x1024_S1x512x1024_S1x512x1024_S3x512x1024_d0 : FVec Ideal S3x512x1024 .f32)) shapeCasts_S3x512x1024_S3x512x128x8) transposes_S3x512x128x8_S8x512x128x3_3_1_2_0) shapeCasts_S8x512x128x3_S4096x384

/-- The gathered signals' stacked terms (layer one). -/
def termsA (s : FVec Ideal S1x512x512 .f32) (x : FVec Ideal S512x520 .f32) : FVec Ideal S4096x195 .f32 :=
  stackA x (advA (sup s) x) (chebA (sup s) x (advA (sup s) x))

/-- The gathered signals' stacked terms (layer two). -/
def termsB (s : FVec Ideal S1x512x512 .f32) (x : FVec Ideal S512x1024 .f32) : FVec Ideal S4096x384 .f32 :=
  stackB x (advB (sup s) x) (chebB (sup s) x (advB (sup s) x))

/-- A product with the gates' weights plus their bias (layer one). -/
def affAg (t : FVec Ideal S4096x195 .f32) (w : FVec Ideal S195x128 .f32) (b : FVec Ideal S128 .f32) : FVec Ideal S8x65536 .f32 :=
  shapeCast _ (addf (Host.dotGeneral (φ₁ := .f32) (φ₂ := .f32) dot_S4096x195_S195x128_S4096x128_1_0_0_1_n_n none t w) (broadcastInDim S4096x128 ![0, 1] bcast_S1x128_S4096x128_0_1 (broadcastInDim S1x128 ![1] bcast_S128_S1x128_1 b))) shapeCasts_S4096x128_S8x65536

/-- A product with the candidate's weights plus their bias (layer one). -/
def affAc (t : FVec Ideal S4096x195 .f32) (w : FVec Ideal S195x64 .f32) (b : FVec Ideal S64 .f32) : FVec Ideal S8x32768 .f32 :=
  shapeCast _ (addf (Host.dotGeneral (φ₁ := .f32) (φ₂ := .f32) dot_S4096x195_S195x64_S4096x64_1_0_0_1_n_n none t w) (broadcastInDim S4096x64 ![0, 1] bcast_S1x64_S4096x64_0_1 (broadcastInDim S1x64 ![1] bcast_S64_S1x64_1 b))) shapeCasts_S4096x64_S8x32768

/-- A product with the gates' weights plus their bias (layer two). -/
def affBg (t : FVec Ideal S4096x384 .f32) (w : FVec Ideal S384x128 .f32) (b : FVec Ideal S128 .f32) : FVec Ideal S8x65536 .f32 :=
  shapeCast _ (addf (Host.dotGeneral (φ₁ := .f32) (φ₂ := .f32) dot_S4096x384_S384x128_S4096x128_1_0_0_1_n_n none t w) (broadcastInDim S4096x128 ![0, 1] bcast_S1x128_S4096x128_0_1 (broadcastInDim S1x128 ![1] bcast_S128_S1x128_1 b))) shapeCasts_S4096x128_S8x65536

/-- A product with the candidate's weights plus their bias (layer two). -/
def affBc (t : FVec Ideal S4096x384 .f32) (w : FVec Ideal S384x64 .f32) (b : FVec Ideal S64 .f32) : FVec Ideal S8x32768 .f32 :=
  shapeCast _ (addf (Host.dotGeneral (φ₁ := .f32) (φ₂ := .f32) dot_S4096x384_S384x64_S4096x64_1_0_0_1_n_n none t w) (broadcastInDim S4096x64 ![0, 1] bcast_S1x64_S4096x64_0_1 (broadcastInDim S1x64 ![1] bcast_S64_S1x64_1 b))) shapeCasts_S4096x64_S8x32768

/-- The logistic function of every entry, in the host's operations. -/
def sigm (y : FVec Ideal S8x65536 .f32) : FVec Ideal S8x512x128 .f32 :=
  shapeCast _ (Host.divf (broadcastInDim S8x65536 ![] bcast_S_S8x65536 (constant S_ .f32 0x3F800000#32)) (addf (broadcastInDim S8x65536 ![] bcast_S_S8x65536 (constant S_ .f32 0x3F800000#32)) (Host.exp (Host.negf y)))) shapeCasts_S8x65536_S8x512x128

/-- The update gate out of both gates. -/
def upd (g : FVec Ideal S8x512x128 .f32) : FVec Ideal S8x32768 .f32 :=
  shapeCast _ (extractStridedSlice S8x512x64 ![0, 0, 64] g slices_S8x512x128_S8x512x64_0_0_64) shapeCasts_S8x512x64_S8x32768

/-- The reset gate times the hidden state. -/
def rst (g : FVec Ideal S8x512x128 .f32) (h : FVec Ideal S8x32768 .f32) : FVec Ideal S8x32768 .f32 :=
  mulf (shapeCast _ (extractStridedSlice S8x512x64 ![0, 0, 0] g slices_S8x512x128_S8x512x64_0_0_0) shapeCasts_S8x512x64_S8x32768) h

/-- The update gate's mixture of the old state and the candidate. -/
def mix (u h c : FVec Ideal S8x32768 .f32) : FVec Ideal S8x32768 .f32 :=
  addf (mulf u h) (mulf (subf (broadcastInDim S8x32768 ![] bcast_S_S8x32768 (constant S_ .f32 0x3F800000#32)) u) (Host.tanh c))

/-- The first layer's gates. -/
def gateA (s : FVec Ideal S1x512x512 .f32) (wg : FVec Ideal S195x128 .f32) (bg : FVec Ideal S128 .f32)
    (x : FVec Ideal S8x512 .f32) (h : FVec Ideal S8x32768 .f32) : FVec Ideal S8x512x128 .f32 :=
  sigm (affAg (termsA s (x0A x h)) wg bg)

/-- The first layer's new state. -/
def cellA (s : FVec Ideal S1x512x512 .f32) (wg : FVec Ideal S195x128 .f32) (bg : FVec Ideal S128 .f32)
    (wc : FVec Ideal S195x64 .f32) (bc : FVec Ideal S64 .f32)
    (x : FVec Ideal S8x512 .f32) (h : FVec Ideal S8x32768 .f32) : FVec Ideal S8x32768 .f32 :=
  mix (upd (gateA s wg bg x h)) h (affAc (termsA s (x0A x (rst (gateA s wg bg x h) h))) wc bc)

/-- The second layer's gates. -/
def gateB (s : FVec Ideal S1x512x512 .f32) (wg : FVec Ideal S384x128 .f32) (bg : FVec Ideal S128 .f32)
    (x : FVec Ideal S8x32768 .f32) (h : FVec Ideal S8x32768 .f32) : FVec Ideal S8x512x128 .f32 :=
  sigm (affBg (termsB s (x0B x h)) wg bg)

/-- The second layer's new state. -/
def cellB (s : FVec Ideal S1x512x512 .f32) (wg : FVec Ideal S384x128 .f32) (bg : FVec Ideal S128 .f32)
    (wc : FVec Ideal S384x64 .f32) (bc : FVec Ideal S64 .f32)
    (x : FVec Ideal S8x32768 .f32) (h : FVec Ideal S8x32768 .f32) : FVec Ideal S8x32768 .f32 :=
  mix (upd (gateB s wg bg x h)) h (affBc (termsB s (x0B x (rst (gateB s wg bg x h) h))) wc bc)

/-- The projection of the second layer's state. -/
def projR (h : FVec Ideal S8x32768 .f32) (w : FVec Ideal S64x1 .f32) (b : FVec Ideal S1 .f32) : FVec Ideal S8x512 .f32 :=
  shapeCast _ (addf (Host.dotGeneral (φ₁ := .f32) (φ₂ := .f32) dot_S8x512x64_S64x1_S8x512x1_2_0_01_1_n_n none (shapeCast _ h shapeCasts_S8x32768_S8x512x64) w) (broadcastInDim S8x512x1 ![0, 1, 2] bcast_S1x1x1_S8x512x1_0_1_2 (broadcastInDim S1x1x1 ![2] bcast_S1_S1x1x1_2 b))) shapeCasts_S8x512x1_S8x512

/-- The two hidden states as one array. -/
def pack (h0 h1 : FVec Ideal S8x32768 .f32) : FVec Ideal S2x8x32768 .f32 :=
  concatenate S2x8x32768 0 [⟨S1x8x32768, (broadcastInDim S1x8x32768 ![1, 2] bcast_S8x32768_S1x8x32768_1_2 h0)⟩, ⟨S1x8x32768, (broadcastInDim S1x8x32768 ![1, 2] bcast_S8x32768_S1x8x32768_1_2 h1)⟩] concatenates_S1x8x32768_S1x8x32768_S2x8x32768_d0

/-- The first layer's hidden state out of both. -/
def fst (h : FVec Ideal S2x8x32768 .f32) : FVec Ideal S8x32768 .f32 :=
  shapeCast _ (extractStridedSlice S1x8x32768 ![0, 0, 0] h slices_S2x8x32768_S1x8x32768_0_0_0) shapeCasts_S1x8x32768_S8x32768

/-- The second layer's hidden state out of both. -/
def snd (h : FVec Ideal S2x8x32768 .f32) : FVec Ideal S8x32768 .f32 :=
  shapeCast _ (extractStridedSlice S1x8x32768 ![1, 0, 0] h slices_S2x8x32768_S1x8x32768_1_0_0) shapeCasts_S1x8x32768_S8x32768

end Cert.ReferenceIdeal.Vec

end
-- ==== Proof.RefCell.lean ====
/- The reference's operations read at an index: what each of them holds in the plain model's terms. -/
module

public import proofs.«01_k».proof.Proof.RefDefs

@[expose] public section

set_option maxRecDepth 16384

noncomputable section

namespace Cert.ReferenceIdeal.Vec

open Cert.ReferenceIdeal Cert.ReferenceIdeal.Gen Idealize.ShloMosaic Idealize.ShloMosaic.TcCoe Idealize.SL.Sem
open Cert.Model

/-- A hidden state's values for batch `b`: per feature and node. -/
def rdH (h : FVec Ideal S8x32768 .f32) (b : Fin 8) (i : Fin 64) (n : Fin 512) : EReal := h (ix2 b ⟨n * 64 + i, by omega⟩)

/-- The values of layer one's gathered signals for batch `b`. -/
def rdA (x : FVec Ideal S512x520 .f32) (b : Fin 8) (i : Fin 65) (n : Fin 512) : EReal := x (ix2 n ⟨i * 8 + b, by omega⟩)

/-- The values of layer two's gathered signals for batch `b`. -/
def rdB (x : FVec Ideal S512x1024 .f32) (b : Fin 8) (i : Fin 128) (n : Fin 512) : EReal := x (ix2 n ⟨i * 8 + b, by omega⟩)

/-- Layer one gathers the input signal first. -/
theorem x0A_in (x : FVec Ideal S8x512 .f32) (h : FVec Ideal S8x32768 .f32) (b : Fin 8) (i : Fin 1) :
    rdA (x0A x h) b ⟨i, by omega⟩ = fun n => x (ix2 b n) := by
  funext n
  unfold rdA
  pointwise [x0A]
  rw [dif_pos (by have := b.2; have := i.2; omega)]
  exact congrArg (fun a => x (ix2 a n)) (Fin.ext (by have := b.2; have := i.2; simp only [] <;> omega))

/-- Layer one gathers the hidden features after the input signal. -/
theorem x0A_hid (x : FVec Ideal S8x512 .f32) (h : FVec Ideal S8x32768 .f32) (b : Fin 8) (i : Fin 64) :
    rdA (x0A x h) b ⟨1 + i, by omega⟩ = rdH h b i := by
  funext n
  unfold rdA rdH
  pointwise [x0A]
  rw [dif_neg (by have := b.2; have := i.2; omega)]
  exact congrArg h ((ix2_inj ..).2 ⟨Fin.ext (by have := b.2; simp only [] <;> omega), Fin.ext (by have := b.2; simp only [] <;> omega)⟩)

/-- Layer two gathers the input features first. -/
theorem x0B_in (x : FVec Ideal S8x32768 .f32) (h : FVec Ideal S8x32768 .f32) (b : Fin 8) (i : Fin 64) :
    rdB (x0B x h) b ⟨i, by omega⟩ = rdH x b i := by
  funext n
  unfold rdB rdH
  pointwise [x0B]
  rw [dif_pos (by have := b.2; have := i.2; omega)]
  exact congrArg x ((ix2_inj ..).2 ⟨Fin.ext (by have := b.2; simp only [] <;> omega), Fin.ext (by have := b.2; simp only [] <;> omega)⟩)

/-- Layer two gathers the hidden features after the input features. -/
theorem x0B_hid (x : FVec Ideal S8x32768 .f32) (h : FVec Ideal S8x32768 .f32) (b : Fin 8) (i : Fin 64) :
    rdB (x0B x h) b ⟨64 + i, by omega⟩ = rdH h b i := by
  funext n
  unfold rdB rdH
  pointwise [x0B]
  rw [dif_neg (by have := b.2; have := i.2; omega)]
  exact congrArg h ((ix2_inj ..).2 ⟨Fin.ext (by have := b.2; simp only [] <;> omega), Fin.ext (by have := b.2; simp only [] <;> omega)⟩)

/-- Layer one's diffusion advances every signal. -/
theorem advA_rd (s : FVec Ideal S1x512x512 .f32) (x : FVec Ideal S512x520 .f32) (b : Fin 8) (i : Fin 65) :
    rdA (advA (sup s) x) b i = adv (graph s) (rdA x b i) := by
  funext n
  unfold rdA adv graph
  pointwise [advA, sup]

/-- Layer two's diffusion advances every signal. -/
theorem advB_rd (s : FVec Ideal S1x512x512 .f32) (x : FVec Ideal S512x1024 .f32) (b : Fin 8) (i : Fin 128) :
    rdB (advB (sup s) x) b i = adv (graph s) (rdB x b i) := by
  funext n
  unfold rdB adv graph
  pointwise [advB, sup]

/-- Layer one's second term of every signal. -/
theorem chebA_rd (s : FVec Ideal S1x512x512 .f32) (x y : FVec Ideal S512x520 .f32) (b : Fin 8) (i : Fin 65) :
    rdA (chebA (sup s) x y) b i = fun n => Ideal.ofBits .f32 0x40000000#32 * adv (graph s) (rdA y b i) n - rdA x b i n := by
  funext n
  rw [← advA_rd]
  unfold rdA
  pointwise [chebA]

/-- Layer two's second term of every signal. -/
theorem chebB_rd (s : FVec Ideal S1x512x512 .f32) (x y : FVec Ideal S512x1024 .f32) (b : Fin 8) (i : Fin 128) :
    rdB (chebB (sup s) x y) b i = fun n => Ideal.ofBits .f32 0x40000000#32 * adv (graph s) (rdB y b i) n - rdB x b i n := by
  funext n
  rw [← advB_rd]
  unfold rdB
  pointwise [chebB]

/-- Layer one's stack read at an index. -/
theorem stackA_raw (x y z : FVec Ideal S512x520 .f32) (a : Fin 4096) (c : Fin 195) :
    stackA x y z (ix2 a c) = if (c : ℕ) % 3 < 1 then x (ix2 ⟨a % 512, by omega⟩ ⟨c / 3 * 8 + a / 512, by omega⟩)
      else if (c : ℕ) % 3 - 1 < 1 then y (ix2 ⟨a % 512, by omega⟩ ⟨c / 3 * 8 + a / 512, by omega⟩)
      else z (ix2 ⟨a % 512, by omega⟩ ⟨c / 3 * 8 + a / 512, by omega⟩) := by
  pointwise [stackA]
  rfl

/-- Layer one's stack read at a row and a column. -/
theorem stackA_at (x y z : FVec Ideal S512x520 .f32) (b : Fin 8) (n : Fin 512) (i : Fin 65) (k : Fin 3)
    (a : Fin 4096) (c : Fin 195) (ha : (a : ℕ) = b * 512 + n) (hc : (c : ℕ) = i * 3 + k) :
    stackA x y z (ix2 a c)
      = if (k : ℕ) = 0 then rdA x b i n else if (k : ℕ) = 1 then rdA y b i n else rdA z b i n := by
  have h (y : FVec Ideal S512x520 .f32) :
      y (ix2 ⟨a % 512, by omega⟩ ⟨c / 3 * 8 + a / 512, by omega⟩) = rdA y b i n :=
    congrArg y ((ix2_inj ..).2 ⟨Fin.ext (by simp only [] <;> omega), Fin.ext (by simp only [] <;> omega)⟩)
  rw [stackA_raw, h x, h y, h z]
  by_cases h0 : (k : ℕ) = 0
  · rw [if_pos (by omega), if_pos h0]
  · rw [if_neg (by omega), if_neg h0]
    by_cases h1 : (k : ℕ) = 1
    · rw [if_pos (by omega), if_pos h1]
    · rw [if_neg (by omega), if_neg h1]

/-- Layer one's stack holds, at batch `b`, node `n`, signal `i` and term `k`, that term of that signal. -/
theorem termsA_at (s : FVec Ideal S1x512x512 .f32) (x : FVec Ideal S512x520 .f32) (b : Fin 8) (n : Fin 512)
    (i : Fin 65) (k : Fin 3) (a : Fin 4096) (c : Fin 195) (ha : (a : ℕ) = b * 512 + n) (hc : (c : ℕ) = i * 3 + k) :
    termsA s x (ix2 a c) = term (graph s) (rdA x b i) k n := by
  unfold termsA
  rw [stackA_at _ _ _ b n i k a c ha hc, chebA_rd, advA_rd]
  unfold term
  split
  · rfl
  · split <;> rfl

/-- Layer two's stack read at an index. -/
theorem stackB_raw (x y z : FVec Ideal S512x1024 .f32) (a : Fin 4096) (c : Fin 384) :
    stackB x y z (ix2 a c) = if (c : ℕ) % 3 < 1 then x (ix2 ⟨a % 512, by omega⟩ ⟨c / 3 * 8 + a / 512, by omega⟩)
      else if (c : ℕ) % 3 - 1 < 1 then y (ix2 ⟨a % 512, by omega⟩ ⟨c / 3 * 8 + a / 512, by omega⟩)
      else z (ix2 ⟨a % 512, by omega⟩ ⟨c / 3 * 8 + a / 512, by omega⟩) := by
  pointwise [stackB]
  rfl

/-- Layer two's stack read at a row and a column. -/
theorem stackB_at (x y z : FVec Ideal S512x1024 .f32) (b : Fin 8) (n : Fin 512) (i : Fin 128) (k : Fin 3)
    (a : Fin 4096) (c : Fin 384) (ha : (a : ℕ) = b * 512 + n) (hc : (c : ℕ) = i * 3 + k) :
    stackB x y z (ix2 a c)
      = if (k : ℕ) = 0 then rdB x b i n else if (k : ℕ) = 1 then rdB y b i n else rdB z b i n := by
  have h (y : FVec Ideal S512x1024 .f32) :
      y (ix2 ⟨a % 512, by omega⟩ ⟨c / 3 * 8 + a / 512, by omega⟩) = rdB y b i n :=
    congrArg y ((ix2_inj ..).2 ⟨Fin.ext (by simp only [] <;> omega), Fin.ext (by simp only [] <;> omega)⟩)
  rw [stackB_raw, h x, h y, h z]
  by_cases h0 : (k : ℕ) = 0
  · rw [if_pos (by omega), if_pos h0]
  · rw [if_neg (by omega), if_neg h0]
    by_cases h1 : (k : ℕ) = 1
    · rw [if_pos (by omega), if_pos h1]
    · rw [if_neg (by omega), if_neg h1]

/-- Layer two's stack holds, at batch `b`, node `n`, signal `i` and term `k`, that term of that signal. -/
theorem termsB_at (s : FVec Ideal S1x512x512 .f32) (x : FVec Ideal S512x1024 .f32) (b : Fin 8) (n : Fin 512)
    (i : Fin 128) (k : Fin 3) (a : Fin 4096) (c : Fin 384) (ha : (a : ℕ) = b * 512 + n) (hc : (c : ℕ) = i * 3 + k) :
    termsB s x (ix2 a c) = term (graph s) (rdB x b i) k n := by
  unfold termsB
  rw [stackB_at _ _ _ b n i k a c ha hc, chebB_rd, advB_rd]
  unfold term
  split
  · rfl
  · split <;> rfl

/-- Layer one's gate product at an index. -/
theorem affAg_at (t : FVec Ideal S4096x195 .f32) (w : FVec Ideal S195x128 .f32) (v : FVec Ideal S128 .f32) (b : Fin 8)
    (n : Fin 512) (j : Fin 128) (q : Fin 65536) (hq : (q : ℕ) = n * 128 + j) :
    affAg t w v (ix2 b q) = (∑ c : Fin 195, t (ix2 ⟨b * 512 + n, by omega⟩ c) * w (ix2 c j)) + v (ix1 j) := by
  have hj : (⟨q % 128, by omega⟩ : Fin 128) = j := Fin.ext (by simp only [] <;> omega)
  have hn : (⟨b * 512 + q / 128, by omega⟩ : Fin 4096) = ⟨b * 512 + n, by omega⟩ := Fin.ext (by simp only [] <;> omega)
  pointwise [affAg]
  rw [hj, hn]

/-- Layer one's candidate product at an index. -/
theorem affAc_at (t : FVec Ideal S4096x195 .f32) (w : FVec Ideal S195x64 .f32) (v : FVec Ideal S64 .f32) (b : Fin 8)
    (n : Fin 512) (j : Fin 64) (q : Fin 32768) (hq : (q : ℕ) = n * 64 + j) :
    affAc t w v (ix2 b q) = (∑ c : Fin 195, t (ix2 ⟨b * 512 + n, by omega⟩ c) * w (ix2 c j)) + v (ix1 j) := by
  have hj : (⟨q % 64, by omega⟩ : Fin 64) = j := Fin.ext (by simp only [] <;> omega)
  have hn : (⟨b * 512 + q / 64, by omega⟩ : Fin 4096) = ⟨b * 512 + n, by omega⟩ := Fin.ext (by simp only [] <;> omega)
  pointwise [affAc]
  rw [hj, hn]

/-- Layer two's gate product at an index. -/
theorem affBg_at (t : FVec Ideal S4096x384 .f32) (w : FVec Ideal S384x128 .f32) (v : FVec Ideal S128 .f32) (b : Fin 8)
    (n : Fin 512) (j : Fin 128) (q : Fin 65536) (hq : (q : ℕ) = n * 128 + j) :
    affBg t w v (ix2 b q) = (∑ c : Fin 384, t (ix2 ⟨b * 512 + n, by omega⟩ c) * w (ix2 c j)) + v (ix1 j) := by
  have hj : (⟨q % 128, by omega⟩ : Fin 128) = j := Fin.ext (by simp only [] <;> omega)
  have hn : (⟨b * 512 + q / 128, by omega⟩ : Fin 4096) = ⟨b * 512 + n, by omega⟩ := Fin.ext (by simp only [] <;> omega)
  pointwise [affBg]
  rw [hj, hn]

/-- Layer two's candidate product at an index. -/
theorem affBc_at (t : FVec Ideal S4096x384 .f32) (w : FVec Ideal S384x64 .f32) (v : FVec Ideal S64 .f32) (b : Fin 8)
    (n : Fin 512) (j : Fin 64) (q : Fin 32768) (hq : (q : ℕ) = n * 64 + j) :
    affBc t w v (ix2 b q) = (∑ c : Fin 384, t (ix2 ⟨b * 512 + n, by omega⟩ c) * w (ix2 c j)) + v (ix1 j) := by
  have hj : (⟨q % 64, by omega⟩ : Fin 64) = j := Fin.ext (by simp only [] <;> omega)
  have hn : (⟨b * 512 + q / 64, by omega⟩ : Fin 4096) = ⟨b * 512 + n, by omega⟩ := Fin.ext (by simp only [] <;> omega)
  pointwise [affBc]
  rw [hj, hn]

/-- The logistic function at an index. -/
theorem sigm_at (y : FVec Ideal S8x65536 .f32) (b : Fin 8) (n : Fin 512) (j : Fin 128) :
    sigm y (ix3 b n j) = Ideal.logistic (y (ix2 b ⟨n * 128 + j, by omega⟩)) := by
  unfold Ideal.logistic
  pointwise [sigm]

/-- The update gate of feature `i` is the gate of row `64 + i`. -/
theorem upd_rd (g : FVec Ideal S8x512x128 .f32) (b : Fin 8) (i : Fin 64) (n : Fin 512) :
    rdH (upd g) b i n = g (ix3 b n ⟨64 + i, by omega⟩) := by
  unfold rdH
  have key (q : Fin 32768) (hq : (q : ℕ) = n * 64 + i) : upd g (ix2 b q) = g (ix3 b n ⟨64 + i, by omega⟩) := by
    have hn : (⟨q / 64, by omega⟩ : Fin 512) = n := Fin.ext (by simp only [] <;> omega)
    have hi : (⟨64 + q % 64, by omega⟩ : Fin 128) = ⟨64 + i, by omega⟩ := Fin.ext (by simp only [] <;> omega)
    pointwise [upd]
    rw [hn, hi]
  exact key _ rfl

/-- The reset gate of feature `i` is the gate of row `i`; it multiplies the hidden state. -/
theorem rst_rd (g : FVec Ideal S8x512x128 .f32) (h : FVec Ideal S8x32768 .f32) (b : Fin 8) (i : Fin 64) (n : Fin 512) :
    rdH (rst g h) b i n = g (ix3 b n ⟨i, by omega⟩) * rdH h b i n := by
  unfold rdH
  have key (q : Fin 32768) (hq : (q : ℕ) = n * 64 + i) :
      rst g h (ix2 b q) = g (ix3 b n ⟨i, by omega⟩) * h (ix2 b q) := by
    have hn : (⟨q / 64, by omega⟩ : Fin 512) = n := Fin.ext (by simp only [] <;> omega)
    have hi : (⟨q % 64, by omega⟩ : Fin 128) = ⟨i, by omega⟩ := Fin.ext (by simp only [] <;> omega)
    pointwise [rst]
    rw [hn, hi]
  exact key _ rfl

/-- The new state at an index. -/
theorem mix_rd (u h c : FVec Ideal S8x32768 .f32) (b : Fin 8) (i : Fin 64) (n : Fin 512) :
    rdH (mix u h c) b i n = rdH u b i n * rdH h b i n + (1 - rdH u b i n) * Ideal.tanh (rdH c b i n) := by
  unfold rdH
  pointwise [mix]

/-- The projection at an index is the plain projection of the state's values. -/
theorem projR_rd (h : FVec Ideal S8x32768 .f32) (w : FVec Ideal S64x1 .f32) (v : FVec Ideal S1 .f32) (b : Fin 8) (n : Fin 512) :
    projR h w v (ix2 b n) = proj (fun i => w (ix2 i 0)) (v (ix1 0)) (rdH h b) n := by
  unfold proj rdH
  pointwise [projR]

/-- Both states packed and taken apart again: the first. -/
theorem fst_pack (h h' : FVec Ideal S8x32768 .f32) : fst (pack h h') = h := by
  funext i
  idx_vars i
  pointwise [fst, pack]

/-- Both states packed and taken apart again: the second. -/
theorem snd_pack (h h' : FVec Ideal S8x32768 .f32) : snd (pack h h') = h' := by
  funext i
  idx_vars i
  pointwise [snd, pack]

/-- Layer one's convolution for the gates is the model's, when the gathered signals are the model's. -/
theorem convAg (s : FVec Ideal S1x512x512 .f32) (wg : FVec Ideal S195x128 .f32) (bg : FVec Ideal S128 .f32)
    (wc : FVec Ideal S195x64 .f32) (bc : FVec Ideal S64 .f32) (x : FVec Ideal S8x512 .f32) (h : FVec Ideal S8x32768 .f32)
    (b : Fin 8) (n : Fin 512) (j : Fin 128) (q : Fin 65536) (hq : (q : ℕ) = n * 128 + j) :
    affAg (termsA s (x0A x h)) wg bg (ix2 b q)
      = conv (graph s) (wts1 wg bg wc bc).wg (wts1 wg bg wc bc).bg (fun _ n => x (ix2 b n)) (rdH h b) j n := by
  rw [affAg_at _ _ _ b n j q hq]
  refine conv_of_rows (d := 1) (N := 195) rfl (graph s) (wts1 wg bg wc bc).wg (wts1 wg bg wc bc).bg (fun _ n => x (ix2 b n)) (rdH h b) j n
    (fun c => termsA s (x0A x h) (ix2 ⟨b * 512 + n, by omega⟩ c)) (fun c => wg (ix2 c j)) (fun i k => ?_) (fun i k => ?_) (fun r => rfl)
  · rw [termsA_at s _ b n ⟨i, by omega⟩ k _ _ rfl rfl, x0A_in]
  · rw [termsA_at s _ b n ⟨1 + i, by omega⟩ k _ _ rfl rfl, x0A_hid]

/-- Layer one's convolution for the candidate is the model's, when the gathered signals are the model's. -/
theorem convAc (s : FVec Ideal S1x512x512 .f32) (wg : FVec Ideal S195x128 .f32) (bg : FVec Ideal S128 .f32)
    (wc : FVec Ideal S195x64 .f32) (bc : FVec Ideal S64 .f32) (x : FVec Ideal S8x512 .f32) (h : FVec Ideal S8x32768 .f32)
    (b : Fin 8) (n : Fin 512) (j : Fin 64) (q : Fin 32768) (hq : (q : ℕ) = n * 64 + j) :
    affAc (termsA s (x0A x h)) wc bc (ix2 b q)
      = conv (graph s) (wts1 wg bg wc bc).wc (wts1 wg bg wc bc).bc (fun _ n => x (ix2 b n)) (rdH h b) j n := by
  rw [affAc_at _ _ _ b n j q hq]
  refine conv_of_rows (d := 1) (N := 195) rfl (graph s) (wts1 wg bg wc bc).wc (wts1 wg bg wc bc).bc (fun _ n => x (ix2 b n)) (rdH h b) j n
    (fun c => termsA s (x0A x h) (ix2 ⟨b * 512 + n, by omega⟩ c)) (fun c => wc (ix2 c j)) (fun i k => ?_) (fun i k => ?_) (fun r => rfl)
  · rw [termsA_at s _ b n ⟨i, by omega⟩ k _ _ rfl rfl, x0A_in]
  · rw [termsA_at s _ b n ⟨1 + i, by omega⟩ k _ _ rfl rfl, x0A_hid]

/-- Layer one's gates are the model's. -/
theorem gateA_at (s : FVec Ideal S1x512x512 .f32) (wg : FVec Ideal S195x128 .f32) (bg : FVec Ideal S128 .f32)
    (wc : FVec Ideal S195x64 .f32) (bc : FVec Ideal S64 .f32) (x : FVec Ideal S8x512 .f32) (h : FVec Ideal S8x32768 .f32)
    (b : Fin 8) (n : Fin 512) (j : Fin 128) :
    gateA s wg bg x h (ix3 b n j) = gate (graph s) (wts1 wg bg wc bc) (fun _ n => x (ix2 b n)) (rdH h b) j n := by
  unfold gateA gate
  rw [sigm_at, convAg s wg bg wc bc x h b n j _ rfl]

/-- Layer one's new state is the model's. -/
theorem cellA_rd (s : FVec Ideal S1x512x512 .f32) (wg : FVec Ideal S195x128 .f32) (bg : FVec Ideal S128 .f32)
    (wc : FVec Ideal S195x64 .f32) (bc : FVec Ideal S64 .f32) (x : FVec Ideal S8x512 .f32) (h : FVec Ideal S8x32768 .f32)
    (b : Fin 8) :
    rdH (cellA s wg bg wc bc x h) b = cell (graph s) (wts1 wg bg wc bc) (fun _ n => x (ix2 b n)) (rdH h b) := by
  have hr : rdH (rst (gateA s wg bg x h) h) b
      = fun (i : Fin 64) n => gate (graph s) (wts1 wg bg wc bc) (fun _ n => x (ix2 b n)) (rdH h b) ⟨i, by omega⟩ n * rdH h b i n := by
    funext i n
    rw [rst_rd, gateA_at s wg bg wc bc]
  have hc (y : FVec Ideal S8x32768 .f32) (j : Fin 64) (n : Fin 512) : rdH (affAc (termsA s (x0A x y)) wc bc) b j n
      = conv (graph s) (wts1 wg bg wc bc).wc (wts1 wg bg wc bc).bc (fun _ n => x (ix2 b n)) (rdH y b) j n :=
    convAc s wg bg wc bc x y b n j _ rfl
  funext j n
  unfold cellA cell cand
  rw [mix_rd, upd_rd, gateA_at s wg bg wc bc, hc, hr]

/-- Layer two's convolution for the gates is the model's, when the gathered signals are the model's. -/
theorem convBg (s : FVec Ideal S1x512x512 .f32) (wg : FVec Ideal S384x128 .f32) (bg : FVec Ideal S128 .f32)
    (wc : FVec Ideal S384x64 .f32) (bc : FVec Ideal S64 .f32) (x : FVec Ideal S8x32768 .f32) (h : FVec Ideal S8x32768 .f32)
    (b : Fin 8) (n : Fin 512) (j : Fin 128) (q : Fin 65536) (hq : (q : ℕ) = n * 128 + j) :
    affBg (termsB s (x0B x h)) wg bg (ix2 b q)
      = conv (graph s) (wts2 wg bg wc bc).wg (wts2 wg bg wc bc).bg (rdH x b) (rdH h b) j n := by
  rw [affBg_at _ _ _ b n j q hq]
  refine conv_of_rows (d := 64) (N := 384) rfl (graph s) (wts2 wg bg wc bc).wg (wts2 wg bg wc bc).bg (rdH x b) (rdH h b) j n
    (fun c => termsB s (x0B x h) (ix2 ⟨b * 512 + n, by omega⟩ c)) (fun c => wg (ix2 c j)) (fun i k => ?_) (fun i k => ?_) (fun r => rfl)
  · rw [termsB_at s _ b n ⟨i, by omega⟩ k _ _ rfl rfl, x0B_in]
  · rw [termsB_at s _ b n ⟨64 + i, by omega⟩ k _ _ rfl rfl, x0B_hid]

/-- Layer two's convolution for the candidate is the model's, when the gathered signals are the model's. -/
theorem convBc (s : FVec Ideal S1x512x512 .f32) (wg : FVec Ideal S384x128 .f32) (bg : FVec Ideal S128 .f32)
    (wc : FVec Ideal S384x64 .f32) (bc : FVec Ideal S64 .f32) (x : FVec Ideal S8x32768 .f32) (h : FVec Ideal S8x32768 .f32)
    (b : Fin 8) (n : Fin 512) (j : Fin 64) (q : Fin 32768) (hq : (q : ℕ) = n * 64 + j) :
    affBc (termsB s (x0B x h)) wc bc (ix2 b q)
      = conv (graph s) (wts2 wg bg wc bc).wc (wts2 wg bg wc bc).bc (rdH x b) (rdH h b) j n := by
  rw [affBc_at _ _ _ b n j q hq]
  refine conv_of_rows (d := 64) (N := 384) rfl (graph s) (wts2 wg bg wc bc).wc (wts2 wg bg wc bc).bc (rdH x b) (rdH h b) j n
    (fun c => termsB s (x0B x h) (ix2 ⟨b * 512 + n, by omega⟩ c)) (fun c => wc (ix2 c j)) (fun i k => ?_) (fun i k => ?_) (fun r => rfl)
  · rw [termsB_at s _ b n ⟨i, by omega⟩ k _ _ rfl rfl, x0B_in]
  · rw [termsB_at s _ b n ⟨64 + i, by omega⟩ k _ _ rfl rfl, x0B_hid]

/-- Layer two's gates are the model's. -/
theorem gateB_at (s : FVec Ideal S1x512x512 .f32) (wg : FVec Ideal S384x128 .f32) (bg : FVec Ideal S128 .f32)
    (wc : FVec Ideal S384x64 .f32) (bc : FVec Ideal S64 .f32) (x : FVec Ideal S8x32768 .f32) (h : FVec Ideal S8x32768 .f32)
    (b : Fin 8) (n : Fin 512) (j : Fin 128) :
    gateB s wg bg x h (ix3 b n j) = gate (graph s) (wts2 wg bg wc bc) (rdH x b) (rdH h b) j n := by
  unfold gateB gate
  rw [sigm_at, convBg s wg bg wc bc x h b n j _ rfl]

/-- Layer two's new state is the model's. -/
theorem cellB_rd (s : FVec Ideal S1x512x512 .f32) (wg : FVec Ideal S384x128 .f32) (bg : FVec Ideal S128 .f32)
    (wc : FVec Ideal S384x64 .f32) (bc : FVec Ideal S64 .f32) (x : FVec Ideal S8x32768 .f32) (h : FVec Ideal S8x32768 .f32)
    (b : Fin 8) :
    rdH (cellB s wg bg wc bc x h) b = cell (graph s) (wts2 wg bg wc bc) (rdH x b) (rdH h b) := by
  have hr : rdH (rst (gateB s wg bg x h) h) b
      = fun (i : Fin 64) n => gate (graph s) (wts2 wg bg wc bc) (rdH x b) (rdH h b) ⟨i, by omega⟩ n * rdH h b i n := by
    funext i n
    rw [rst_rd, gateB_at s wg bg wc bc]
  have hc (y : FVec Ideal S8x32768 .f32) (j : Fin 64) (n : Fin 512) : rdH (affBc (termsB s (x0B x y)) wc bc) b j n
      = conv (graph s) (wts2 wg bg wc bc).wc (wts2 wg bg wc bc).bc (rdH x b) (rdH y b) j n :=
    convBc s wg bg wc bc x y b n j _ rfl
  funext j n
  unfold cellB cell cand
  rw [mix_rd, upd_rd, gateB_at s wg bg wc bc, hc, hr]

end Cert.ReferenceIdeal.Vec

end
-- ==== Proof.RefRun.lean ====
/- The reference's shared arrays in terms of its cells, step by step, and their values in the plain model's terms. -/
module

public import proofs.«01_k».proof.Proof.RefCell
public import proofs.«01_k».proof.Proof.Gen.ReferenceIdeal.Run

@[expose] public section

set_option maxRecDepth 16384

noncomputable section

namespace Cert.ReferenceIdeal.Vec

open Cert.ReferenceIdeal Cert.ReferenceIdeal.Gen Idealize.ShloMosaic Idealize.ShloMosaic.TcCoe Idealize.SL.Sem
open Cert.ReferenceIdeal.Value Cert.Model

/-- What the reference carries from step to step: the input signal and the two hidden states. -/
structure Car where
  cur : FVec Ideal S8x512 .f32
  h0 : FVec Ideal S8x32768 .f32
  h1 : FVec Ideal S8x32768 .f32

/-- The carried arrays' values for batch `b`. -/
def rdSt (s : Car) (b : Fin 8) : St := ⟨fun n => s.cur (ix2 b n), rdH s.h0 b, rdH s.h1 b⟩

variable (V0 : Valuation τ sig (Elt Ideal))

/-- The fixed parameters, out of the reference's arguments. -/
def parR : Par :=
  par (V0 (Proc.devRef .tc main_arg2)) (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8)) (V0 (Proc.devRef .tc main_arg9))
    (V0 (Proc.devRef .tc main_arg10)) (V0 (Proc.devRef .tc main_arg11)) (V0 (Proc.devRef .tc main_arg12))

/-- One time step of the reference. -/
def stepR (s : Car) : Car :=
  ⟨projR (cellB (V0 (Proc.devRef .tc main_arg2)) (V0 (Proc.devRef .tc main_arg7)) (V0 (Proc.devRef .tc main_arg8)) (V0 (Proc.devRef .tc main_arg9)) (V0 (Proc.devRef .tc main_arg10))
      (cellA (V0 (Proc.devRef .tc main_arg2)) (V0 (Proc.devRef .tc main_arg3)) (V0 (Proc.devRef .tc main_arg4)) (V0 (Proc.devRef .tc main_arg5)) (V0 (Proc.devRef .tc main_arg6)) s.cur s.h0) s.h1)
      (V0 (Proc.devRef .tc main_arg11)) (V0 (Proc.devRef .tc main_arg12)),
   cellA (V0 (Proc.devRef .tc main_arg2)) (V0 (Proc.devRef .tc main_arg3)) (V0 (Proc.devRef .tc main_arg4)) (V0 (Proc.devRef .tc main_arg5)) (V0 (Proc.devRef .tc main_arg6)) s.cur s.h0,
   cellB (V0 (Proc.devRef .tc main_arg2)) (V0 (Proc.devRef .tc main_arg7)) (V0 (Proc.devRef .tc main_arg8)) (V0 (Proc.devRef .tc main_arg9)) (V0 (Proc.devRef .tc main_arg10))
      (cellA (V0 (Proc.devRef .tc main_arg2)) (V0 (Proc.devRef .tc main_arg3)) (V0 (Proc.devRef .tc main_arg4)) (V0 (Proc.devRef .tc main_arg5)) (V0 (Proc.devRef .tc main_arg6)) s.cur s.h0) s.h1⟩

/-- One time step of the reference is one step of the model, batch by batch. -/
theorem rdSt_step (s : Car) (b : Fin 8) : rdSt (stepR V0 s) b = step (parR V0) (rdSt s b) := by
  unfold rdSt stepR step parR par
  simp only [projR_rd, cellA_rd, cellB_rd]

/-- What the first step starts from. -/
def car0 : Car := ⟨res_main_v0 V0, res_main_v2 V0, res_main_v68 V0⟩

/-- The start holds the model's initial state. -/
theorem rdSt_car0 (b : Fin 8) : rdSt (car0 V0) b = init (V0 (Proc.devRef .tc main_arg1)) b := by
  have hc : (fun n => res_main_v0 V0 (ix2 b n)) = fun _ => (0 : EReal) := by
    funext n
    pointwise [res_main_v0]
  have h0 (x : FVec Ideal S2x8x32768 .f32) : rdH (fst x) b = fun (i : Fin 64) (n : Fin 512) => x (ix3 0 b ⟨n * 64 + i, by omega⟩) := by
    funext i n
    unfold rdH
    generalize (⟨n * 64 + i, _⟩ : Fin 32768) = q
    pointwise [fst]
  have h1 (x : FVec Ideal S2x8x32768 .f32) : rdH (snd x) b = fun (i : Fin 64) (n : Fin 512) => x (ix3 1 b ⟨n * 64 + i, by omega⟩) := by
    funext i n
    unfold rdH
    generalize (⟨n * 64 + i, _⟩ : Fin 32768) = q
    pointwise [snd]
  unfold rdSt car0 init
  exact congr (congrArg₂ St.mk hc (h0 _)) (h1 _)

/-- The arrays after a step, read back out of the packed pair. -/
theorem car_pack (f : Car → Car) (x : FVec Ideal S8x512 .f32) (h h' : FVec Ideal S8x32768 .f32) (r : Car)
    (e : f ⟨x, fst (pack h h'), snd (pack h h')⟩ = r) : f ⟨x, h, h'⟩ = r := by
  rw [← e, fst_pack, snd_pack]

/-- Step 1's arrays. -/
theorem step_1 : stepR V0 (car0 V0) = ⟨res_main_v141 V0, res_main_v66 V0, res_main_v132 V0⟩ :=
  rfl

/-- Step 2's arrays. -/
theorem step_2 : stepR V0 ⟨res_main_v141 V0, res_main_v66 V0, res_main_v132 V0⟩ = ⟨res_main_v282 V0, res_main_v207 V0, res_main_v273 V0⟩ :=
  car_pack _ _ _ _ _ rfl

/-- Step 3's arrays. -/
theorem step_3 : stepR V0 ⟨res_main_v282 V0, res_main_v207 V0, res_main_v273 V0⟩ = ⟨res_main_v423 V0, res_main_v348 V0, res_main_v414 V0⟩ :=
  car_pack _ _ _ _ _ rfl

/-- Step 4's arrays. -/
theorem step_4 : stepR V0 ⟨res_main_v423 V0, res_main_v348 V0, res_main_v414 V0⟩ = ⟨res_main_v564 V0, res_main_v489 V0, res_main_v555 V0⟩ :=
  car_pack _ _ _ _ _ rfl

/-- Step 5's arrays. -/
theorem step_5 : stepR V0 ⟨res_main_v564 V0, res_main_v489 V0, res_main_v555 V0⟩ = ⟨res_main_v705 V0, res_main_v630 V0, res_main_v696 V0⟩ :=
  car_pack _ _ _ _ _ rfl

/-- Step 6's arrays. -/
theorem step_6 : stepR V0 ⟨res_main_v705 V0, res_main_v630 V0, res_main_v696 V0⟩ = ⟨projR (res_main_v837 V0) (V0 (Proc.devRef .tc main_arg11)) (V0 (Proc.devRef .tc main_arg12)), res_main_v771 V0, res_main_v837 V0⟩ :=
  car_pack _ _ _ _ _ rfl

/-- The carried arrays after `k` steps. -/
def carR (k : ℕ) : Car := (stepR V0)^[k] (car0 V0)

/-- The carried arrays one step on. -/
theorem carR_succ (k : ℕ) : carR V0 (k + 1) = stepR V0 (carR V0 k) := Function.iterate_succ_apply' _ _ _

/-- The carried arrays after `k` steps hold the model's state after `k` steps. -/
theorem rdSt_carR (k : ℕ) (b : Fin 8) : rdSt (carR V0 k) b = run (parR V0) (init (V0 (Proc.devRef .tc main_arg1)) b) k := by
  induction k with
  | zero => exact rdSt_car0 V0 b
  | succ k ih => rw [carR_succ, rdSt_step, ih, run_succ]

/-- The carried arrays after 1 step are the program's. -/
theorem carR_1 : carR V0 1 = ⟨res_main_v141 V0, res_main_v66 V0, res_main_v132 V0⟩ := by
  rw [carR_succ, show carR V0 0 = car0 V0 from rfl, step_1]

/-- The carried arrays after 2 steps are the program's. -/
theorem carR_2 : carR V0 2 = ⟨res_main_v282 V0, res_main_v207 V0, res_main_v273 V0⟩ := by
  rw [carR_succ, carR_1, step_2]

/-- The carried arrays after 3 steps are the program's. -/
theorem carR_3 : carR V0 3 = ⟨res_main_v423 V0, res_main_v348 V0, res_main_v414 V0⟩ := by
  rw [carR_succ, carR_2, step_3]

/-- The carried arrays after 4 steps are the program's. -/
theorem carR_4 : carR V0 4 = ⟨res_main_v564 V0, res_main_v489 V0, res_main_v555 V0⟩ := by
  rw [carR_succ, carR_3, step_4]

/-- The carried arrays after 5 steps are the program's. -/
theorem carR_5 : carR V0 5 = ⟨res_main_v705 V0, res_main_v630 V0, res_main_v696 V0⟩ := by
  rw [carR_succ, carR_4, step_5]

/-- The carried arrays after 6 steps are the program's. -/
theorem carR_6 : carR V0 6 = ⟨projR (res_main_v837 V0) (V0 (Proc.devRef .tc main_arg11)) (V0 (Proc.devRef .tc main_arg12)), res_main_v771 V0, res_main_v837 V0⟩ := by
  rw [carR_succ, carR_5, step_6]

/-- Six signals stacked, as the result array. -/
def stack6 (a b c d e f : FVec Ideal S8x512 .f32) : FVec Ideal S6x1x4096 .f32 :=
  shapeCast _ ((concatenate S6x8x512 0 [⟨S1x8x512, ((broadcastInDim S1x8x512 ![1, 2] bcast_S8x512_S1x8x512_1_2 a) : FVec Ideal S1x8x512 .f32)⟩, ⟨S1x8x512, ((broadcastInDim S1x8x512 ![1, 2] bcast_S8x512_S1x8x512_1_2 b) : FVec Ideal S1x8x512 .f32)⟩, ⟨S1x8x512, ((broadcastInDim S1x8x512 ![1, 2] bcast_S8x512_S1x8x512_1_2 c) : FVec Ideal S1x8x512 .f32)⟩, ⟨S1x8x512, ((broadcastInDim S1x8x512 ![1, 2] bcast_S8x512_S1x8x512_1_2 d) : FVec Ideal S1x8x512 .f32)⟩, ⟨S1x8x512, ((broadcastInDim S1x8x512 ![1, 2] bcast_S8x512_S1x8x512_1_2 e) : FVec Ideal S1x8x512 .f32)⟩, ⟨S1x8x512, ((broadcastInDim S1x8x512 ![1, 2] bcast_S8x512_S1x8x512_1_2 f) : FVec Ideal S1x8x512 .f32)⟩] concatenates_S1x8x512_S1x8x512_S1x8x512_S1x8x512_S1x8x512_S1x8x512_S6x8x512_d0 : FVec Ideal S6x8x512 .f32)) shapeCasts_S6x8x512_S6x1x4096

/-- The stacked signals read at a step, a batch and a node. -/
theorem stack6_at (g : ℕ → FVec Ideal S8x512 .f32) (t : Fin 6) (z : Fin 1) (q : Fin 4096) :
    stack6 (g 0) (g 1) (g 2) (g 3) (g 4) (g 5) (ix3 t z q) = g t (ix2 ⟨q / 512, by omega⟩ ⟨q % 512, by omega⟩) := by
  pointwise [stack6]
  match t with
  | 0 => rfl
  | 1 => rfl
  | 2 => rfl
  | 3 => rfl
  | 4 => rfl
  | 5 => rfl

/-- The reference's result array. -/
def resR : FVec Ideal S6x1x4096 .f32 :=
  stack6 (res_main_v141 V0) (res_main_v282 V0) (res_main_v423 V0) (res_main_v564 V0) (res_main_v705 V0)
    (projR (res_main_v837 V0) (V0 (Proc.devRef .tc main_arg11)) (V0 (Proc.devRef .tc main_arg12)))

/-- The reference's result array holds, at step `t` and place `q`, the model's signal after `t + 1` steps. -/
theorem resR_at (t : Fin 6) (z : Fin 1) (q : Fin 4096) :
    resR V0 (ix3 t z q) = (run (parR V0) (init (V0 (Proc.devRef .tc main_arg1)) ⟨q / 512, by omega⟩) (t + 1)).cur ⟨q % 512, by omega⟩ := by
  have h : resR V0 = stack6 (carR V0 1).cur (carR V0 2).cur (carR V0 3).cur (carR V0 4).cur (carR V0 5).cur (carR V0 6).cur := by
    rw [carR_1, carR_2, carR_3, carR_4, carR_5, carR_6]; rfl
  rw [h, ← rdSt_carR]
  exact stack6_at (fun k => (carR V0 (k + 1)).cur) t z q

end Cert.ReferenceIdeal.Vec

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KerRun
public import proofs.«01_k».proof.Proof.RefRun
public import Idealize.ShloMosaic.Adequacy
public import Idealize.ShloMosaic.Init

@[expose] public section

noncomputable section

namespace Cert.Proof

open Idealize.ShloMosaic Idealize.ShloMosaic.StableHlo Idealize.SL.Sem Cert.Kernel

/-- The parameters of the plain model are the same out of either program's arguments, if those agree. -/
theorem par_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Vec.parR (launchContents m' c) = Cert.KernelIdeal.Vec.parK m c := by
  show Cert.Model.par (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
  rw [h2, h3, h4, h5, h6, h7, h8, h9, h10, h11, h12]
  rfl

/-- The reference's array is the kernel's: each holds, at step `t` and place `q`, the plain model's signal after `t + 1` steps. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (hp : Cert.ReferenceIdeal.Vec.parR (launchContents m' c) = Cert.KernelIdeal.Vec.parK m c) :
    Cert.ReferenceIdeal.Vec.resR (launchContents m' c) = (Cert.KernelIdeal.Value.G12 m c : FVec Ideal Cert.KernelIdeal.S6x1x4096 .f32) := by
  funext i
  obtain ⟨t, z, q, rfl⟩ : ∃ (t : Fin 6) (z : Fin 1) (q : Fin 4096), i = ix3 t z q := ⟨i 0, i 1, i 2, eq_ix3 i⟩
  have hi (b : Fin 8) : Cert.Model.init (launchContents m' c (Proc.devRef .tc Cert.ReferenceIdeal.main_arg1)) b = Cert.KernelIdeal.Vec.initK m c b := by
    show Cert.Model.init (m' ((c.tc : Thread Cert.ReferenceIdeal.nD Cert.ReferenceIdeal.τ).loc Cert.ReferenceIdeal.main_arg1)) b = _
    rw [h1]
    rfl
  refine (Cert.ReferenceIdeal.Vec.resR_at _ t z q).trans ?_
  rw [hp, hi]
  exact (Cert.KernelIdeal.Vec.G12_at m c t z q).symm

/-- The kernel as printed runs to its end, leaves its arguments alone and its semaphores at zero. -/
theorem frame_kernel : Cert.quiescent_Kernel := fun m ρ _ => Cert.Kernel.Gen.frame m ρ

/-- So does the kernel read over the extended reals. -/
theorem frame_kernel_ideal : Cert.quiescent_KernelIdeal := fun m ρ _ => Cert.KernelIdeal.Gen.frame m ρ

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Nothing was rewritten between the kernel and its reading over the extended reals. -/
theorem preserves : Cert.preserves_Kernel_KernelIdeal := trivial

/-- From arguments that agree, the kernel and the reference end with equal results. -/
theorem algebraic : Cert.algebraic_KernelIdeal_ReferenceIdeal := by
  intro m ρ m' ρ' _ hag
  refine ⟨fun c => Cert.KernelIdeal.Value.G12 m c, Cert.KernelIdeal.Value.run m ρ, ?_⟩
  refine (θ_run Cert.ReferenceIdeal.defs _ _).mono (fun _ h c => ⟨(h c).1.trans ?_, (h c).2⟩) (Cert.ReferenceIdeal.Value.run (F := Ideal) m' ρ')
  obtain ⟨_, h1, h2, h3, h4, h5, h6, h7, h8, h9, h10, h11, h12⟩ := hag c
  exact result_eq m m' c h1 (par_eq m m' c h2 h3 h4 h5 h6 h7 h8 h9 h10 h11 h12)

/-- All five claims. -/
theorem claim : Cert.Claim := ⟨Cert.Kernel.Gen.facts, Cert.KernelIdeal.Gen.facts, Cert.ReferenceIdeal.Gen.facts,
  frame_kernel, frame_kernel_ideal, frame_reference, preserves, algebraic⟩

end Cert.Proof

end
